-- ==== Defs.lean ====
def Pre_Hash (m : (ℓ : Loc Cert.Hash.nD Cert.Hash.τ Cert.Hash.sig) → Buf (Elt Bits) ℓ) : Prop :=
  True

def Pre_HashIdeal (m : (ℓ : Loc Cert.HashIdeal.nD Cert.HashIdeal.τ Cert.HashIdeal.sig) → Buf (Elt Ideal) ℓ) : Prop :=
  True

def Pre_HashReferenceIdeal (m : (ℓ : Loc Cert.HashReferenceIdeal.nD Cert.HashReferenceIdeal.τ Cert.HashReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineIdeal_table_finite_bytes_in_range [hPre_table_finite_bytes_in_range : Cert.Pre_table_finite_bytes_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_table_finite_bytes_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3))).1 = (fun _ => 1#1)
    ∧ (Cert.Pre_table_finite_bytes_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3))).2 = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_table_finite_bytes_in_range [hPre_table_finite_bytes_in_range : Cert.Pre_table_finite_bytes_in_range.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_table_finite_bytes_in_range.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3))).1 = (fun _ => 1#1)
    ∧ (Cert.Pre_table_finite_bytes_in_range.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3))).2 = (fun _ => 1#1)

def quiescent_Hash [hHash : Cert.Hash.Facts] : Prop :=
  ∀ (m : (ℓ : Loc Cert.Hash.nD Cert.Hash.τ Cert.Hash.sig) → Buf (Elt Bits) ℓ) (g : Dev Cert.Hash.nD → PrngReg), Pre_Hash m →
    θ_run (Cert.Hash.defs (F := Bits)) (onTc (τ := Cert.Hash.τ) (Cert.Hash.main (F := Bits))) ⟨m, fun _ => 0, g⟩ (fun r => (∀ c : Dev Cert.Hash.nD,
      r.2.mem ((c.tc : Thread Cert.Hash.nD Cert.Hash.τ).loc Cert.Hash.main_arg0) = m ((c.tc : Thread Cert.Hash.nD Cert.Hash.τ).loc Cert.Hash.main_arg0)
      ∧ r.2.mem ((c.tc : Thread Cert.Hash.nD Cert.Hash.τ).loc Cert.Hash.main_arg1) = m ((c.tc : Thread Cert.Hash.nD Cert.Hash.τ).loc Cert.Hash.main_arg1)
      ∧ r.2.mem ((c.tc : Thread Cert.Hash.nD Cert.Hash.τ).loc Cert.Hash.main_arg2) = m ((c.tc : Thread Cert.Hash.nD Cert.Hash.τ).loc Cert.Hash.main_arg2))
      ∧ r.2.sem = fun _ => 0)

def quiescent_HashIdeal [hHashIdeal : Cert.HashIdeal.Facts] : Prop :=
  ∀ (m : (ℓ : Loc Cert.HashIdeal.nD Cert.HashIdeal.τ Cert.HashIdeal.sig) → Buf (Elt Ideal) ℓ) (g : Dev Cert.HashIdeal.nD → PrngReg), Pre_HashIdeal m →
    θ_run (Cert.HashIdeal.defs (F := Ideal)) (onTc (τ := Cert.HashIdeal.τ) (Cert.HashIdeal.main (F := Ideal))) ⟨m, fun _ => 0, g⟩ (fun r => (∀ c : Dev Cert.HashIdeal.nD,
      r.2.mem ((c.tc : Thread Cert.HashIdeal.nD Cert.HashIdeal.τ).loc Cert.HashIdeal.main_arg0) = m ((c.tc : Thread Cert.HashIdeal.nD Cert.HashIdeal.τ).loc Cert.HashIdeal.main_arg0)
      ∧ r.2.mem ((c.tc : Thread Cert.HashIdeal.nD Cert.HashIdeal.τ).loc Cert.HashIdeal.main_arg1) = m ((c.tc : Thread Cert.HashIdeal.nD Cert.HashIdeal.τ).loc Cert.HashIdeal.main_arg1)
      ∧ r.2.mem ((c.tc : Thread Cert.HashIdeal.nD Cert.HashIdeal.τ).loc Cert.HashIdeal.main_arg2) = m ((c.tc : Thread Cert.HashIdeal.nD Cert.HashIdeal.τ).loc Cert.HashIdeal.main_arg2))
      ∧ r.2.sem = fun _ => 0)

def quiescent_HashReferenceIdeal [hHashReferenceIdeal : Cert.HashReferenceIdeal.Facts] : Prop :=
  ∀ (m : (ℓ : Loc Cert.HashReferenceIdeal.nD Cert.HashReferenceIdeal.τ Cert.HashReferenceIdeal.sig) → Buf (Elt Ideal) ℓ) (g : Dev Cert.HashReferenceIdeal.nD → PrngReg), Pre_HashReferenceIdeal m →
    θ_run (Cert.HashReferenceIdeal.defs (F := Ideal)) (onTc (τ := Cert.HashReferenceIdeal.τ) (Cert.HashReferenceIdeal.main (F := Ideal))) ⟨m, fun _ => 0, g⟩ (fun r => (∀ c : Dev Cert.HashReferenceIdeal.nD,
      r.2.mem ((c.tc : Thread Cert.HashReferenceIdeal.nD Cert.HashReferenceIdeal.τ).loc Cert.HashReferenceIdeal.main_arg0) = m ((c.tc : Thread Cert.HashReferenceIdeal.nD Cert.HashReferenceIdeal.τ).loc Cert.HashReferenceIdeal.main_arg0)
      ∧ r.2.mem ((c.tc : Thread Cert.HashReferenceIdeal.nD Cert.HashReferenceIdeal.τ).loc Cert.HashReferenceIdeal.main_arg1) = m ((c.tc : Thread Cert.HashReferenceIdeal.nD Cert.HashReferenceIdeal.τ).loc Cert.HashReferenceIdeal.main_arg1)
      ∧ r.2.mem ((c.tc : Thread Cert.HashReferenceIdeal.nD Cert.HashReferenceIdeal.τ).loc Cert.HashReferenceIdeal.main_arg2) = m ((c.tc : Thread Cert.HashReferenceIdeal.nD Cert.HashReferenceIdeal.τ).loc Cert.HashReferenceIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineIdeal_pre_table_finite_bytes_in_range [hCombineIdeal : Cert.CombineIdeal.Facts] [hPre_table_finite_bytes_in_range : Cert.Pre_table_finite_bytes_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_table_finite_bytes_in_range m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_CombineReferenceIdeal_pre_table_finite_bytes_in_range [hCombineReferenceIdeal : Cert.CombineReferenceIdeal.Facts] [hPre_table_finite_bytes_in_range : Cert.Pre_table_finite_bytes_in_range.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_table_finite_bytes_in_range m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def preserves_Hash_HashIdeal : Prop :=
  True

def algebraic_HashIdeal_HashReferenceIdeal [hHashIdeal : Cert.HashIdeal.Facts] [hHashReferenceIdeal : Cert.HashReferenceIdeal.Facts] : Prop :=
  ∀ (m : (ℓ : Loc Cert.HashIdeal.nD Cert.HashIdeal.τ Cert.HashIdeal.sig) → Buf (Elt Ideal) ℓ) (g : Dev Cert.HashIdeal.nD → PrngReg)
    (m' : (ℓ : Loc Cert.HashReferenceIdeal.nD Cert.HashReferenceIdeal.τ Cert.HashReferenceIdeal.sig) → Buf (Elt Ideal) ℓ) (g' : Dev Cert.HashReferenceIdeal.nD → PrngReg), Pre_HashIdeal m →
    (∀ c : Dev Cert.HashIdeal.nD,
      m' ((c.tc : Thread Cert.HashReferenceIdeal.nD Cert.HashReferenceIdeal.τ).loc Cert.HashReferenceIdeal.main_arg0) = m ((c.tc : Thread Cert.HashIdeal.nD Cert.HashIdeal.τ).loc Cert.HashIdeal.main_arg0)
      ∧ m' ((c.tc : Thread Cert.HashReferenceIdeal.nD Cert.HashReferenceIdeal.τ).loc Cert.HashReferenceIdeal.main_arg1) = m ((c.tc : Thread Cert.HashIdeal.nD Cert.HashIdeal.τ).loc Cert.HashIdeal.main_arg1)
      ∧ m' ((c.tc : Thread Cert.HashReferenceIdeal.nD Cert.HashReferenceIdeal.τ).loc Cert.HashReferenceIdeal.main_arg2) = m ((c.tc : Thread Cert.HashIdeal.nD Cert.HashIdeal.τ).loc Cert.HashIdeal.main_arg2)) →
    ∃ (v0 : (c : Dev Cert.HashIdeal.nD) → Buf (Elt Ideal) ((c.tc : Thread Cert.HashIdeal.nD Cert.HashIdeal.τ).loc Cert.HashIdeal.main_v2)),
      θ_run (Cert.HashIdeal.defs (F := Ideal)) (onTc (τ := Cert.HashIdeal.τ) (Cert.HashIdeal.main (F := Ideal))) ⟨m, fun _ => 0, g⟩ (fun r => ∀ c : Dev Cert.HashIdeal.nD,
          r.2.mem ((c.tc : Thread Cert.HashIdeal.nD Cert.HashIdeal.τ).loc Cert.HashIdeal.main_v2) = v0 c
          ∧ r.2.mem ((c.tc : Thread Cert.HashIdeal.nD Cert.HashIdeal.τ).loc Cert.HashIdeal.main_arg0) = m ((c.tc : Thread Cert.HashIdeal.nD Cert.HashIdeal.τ).loc Cert.HashIdeal.main_arg0)
          ∧ r.2.mem ((c.tc : Thread Cert.HashIdeal.nD Cert.HashIdeal.τ).loc Cert.HashIdeal.main_arg1) = m ((c.tc : Thread Cert.HashIdeal.nD Cert.HashIdeal.τ).loc Cert.HashIdeal.main_arg1)
          ∧ r.2.mem ((c.tc : Thread Cert.HashIdeal.nD Cert.HashIdeal.τ).loc Cert.HashIdeal.main_arg2) = m ((c.tc : Thread Cert.HashIdeal.nD Cert.HashIdeal.τ).loc Cert.HashIdeal.main_arg2))
      ∧ θ_run (Cert.HashReferenceIdeal.defs (F := Ideal)) (onTc (τ := Cert.HashReferenceIdeal.τ) (Cert.HashReferenceIdeal.main (F := Ideal))) ⟨m', fun _ => 0, g'⟩ (fun r => ∀ c : Dev Cert.HashReferenceIdeal.nD,
          r.2.mem ((c.tc : Thread Cert.HashReferenceIdeal.nD Cert.HashReferenceIdeal.τ).loc Cert.HashReferenceIdeal.main_v91) = v0 c
          ∧ r.2.mem ((c.tc : Thread Cert.HashReferenceIdeal.nD Cert.HashReferenceIdeal.τ).loc Cert.HashReferenceIdeal.main_arg0) = m' ((c.tc : Thread Cert.HashReferenceIdeal.nD Cert.HashReferenceIdeal.τ).loc Cert.HashReferenceIdeal.main_arg0)
          ∧ r.2.mem ((c.tc : Thread Cert.HashReferenceIdeal.nD Cert.HashReferenceIdeal.τ).loc Cert.HashReferenceIdeal.main_arg1) = m' ((c.tc : Thread Cert.HashReferenceIdeal.nD Cert.HashReferenceIdeal.τ).loc Cert.HashReferenceIdeal.main_arg1)
          ∧ r.2.mem ((c.tc : Thread Cert.HashReferenceIdeal.nD Cert.HashReferenceIdeal.τ).loc Cert.HashReferenceIdeal.main_arg2) = m' ((c.tc : Thread Cert.HashReferenceIdeal.nD Cert.HashReferenceIdeal.τ).loc Cert.HashReferenceIdeal.main_arg2))

def preserves_Combine_CombineIdeal : Prop :=
  True

def algebraic_CombineIdeal_CombineReferenceIdeal_pre_table_finite_bytes_in_range [hCombineIdeal : Cert.CombineIdeal.Facts] [hCombineReferenceIdeal : Cert.CombineReferenceIdeal.Facts] [hPre_table_finite_bytes_in_range : Cert.Pre_table_finite_bytes_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal_table_finite_bytes_in_range m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v4)) (v1 : (c : Dev Cert.CombineIdeal.nD) → Buf (Elt Ideal) ((c.tc : Thread Cert.CombineIdeal.nD Cert.CombineIdeal.τ).loc Cert.CombineIdeal.main_v5)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v4) = v0 c
          ∧ r.2.mem ((c.tc : Thread Cert.CombineIdeal.nD Cert.CombineIdeal.τ).loc Cert.CombineIdeal.main_v5) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v13) = v0 c
          ∧ r.2.mem ((c.tc : Thread Cert.CombineReferenceIdeal.nD Cert.CombineReferenceIdeal.τ).loc Cert.CombineReferenceIdeal.main_v14) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def Claim : Prop :=
  ∃ (hHash : Cert.Hash.Facts) (hHashIdeal : Cert.HashIdeal.Facts) (hHashReferenceIdeal : Cert.HashReferenceIdeal.Facts) (hCombine : Cert.Combine.Facts) (hCombineIdeal : Cert.CombineIdeal.Facts) (hCombineReferenceIdeal : Cert.CombineReferenceIdeal.Facts) (hPre_table_finite_bytes_in_range : Cert.Pre_table_finite_bytes_in_range.Facts),
    quiescent_Hash (hHash := hHash)
    ∧ quiescent_HashIdeal (hHashIdeal := hHashIdeal)
    ∧ quiescent_HashReferenceIdeal (hHashReferenceIdeal := hHashReferenceIdeal)
    ∧ quiescent_Combine (hCombine := hCombine)
    ∧ quiescent_CombineIdeal (hCombineIdeal := hCombineIdeal)
    ∧ quiescent_CombineIdeal_pre_table_finite_bytes_in_range (hCombineIdeal := hCombineIdeal) (hPre_table_finite_bytes_in_range := hPre_table_finite_bytes_in_range)
    ∧ quiescent_CombineReferenceIdeal (hCombineReferenceIdeal := hCombineReferenceIdeal)
    ∧ quiescent_CombineReferenceIdeal_pre_table_finite_bytes_in_range (hCombineReferenceIdeal := hCombineReferenceIdeal) (hPre_table_finite_bytes_in_range := hPre_table_finite_bytes_in_range)
    ∧ preserves_Hash_HashIdeal
    ∧ algebraic_HashIdeal_HashReferenceIdeal (hHashIdeal := hHashIdeal) (hHashReferenceIdeal := hHashReferenceIdeal)
    ∧ preserves_Combine_CombineIdeal
    ∧ algebraic_CombineIdeal_CombineReferenceIdeal_pre_table_finite_bytes_in_range (hCombineIdeal := hCombineIdeal) (hCombineReferenceIdeal := hCombineReferenceIdeal) (hPre_table_finite_bytes_in_range := hPre_table_finite_bytes_in_range)
-- ==== Pre_table_finite_bytes_in_range.lean ====
abbrev S184320x144 : Shape := ⟨2, ![184320, 144]⟩
abbrev S1440x128 : Shape := ⟨2, ![1440, 128]⟩
abbrev S10x3072 : Shape := ⟨2, ![10, 3072]⟩
abbrev S256x576 : Shape := ⟨2, ![256, 576]⟩
abbrev S_ : Shape := ⟨0, ![]⟩

class Facts : Prop where
  bcast_S_S256x576 : S_.BroadcastsInDim S256x576 (![] : Fin 0 → Fin S256x576.rank)
  bcast_S_S10x3072 : S_.BroadcastsInDim S10x3072 (![] : Fin 0 → Fin S10x3072.rank)

variable [Facts]

def fn {F : FTy → Type} [FloatOps F] (main_arg0 : IVec S184320x144 32) (main_arg1 : FVec F S1440x128 .f32) (main_arg2 : IVec S10x3072 32) (main_arg3 : FVec F S256x576 .f32) : IVec S256x576 1 × IVec S10x3072 1 :=
  let main_cst : FVec F S_ .f32 := constant S_ .f32 0xFF800000#32
  let main_v0 : FVec F S256x576 .f32 := broadcastInDim S256x576 ![] bcast_S_S256x576 main_cst
  let main_v1 : IVec S256x576 1 := cmpf .ogt main_arg3 main_v0
  let main_cst_0 : FVec F S_ .f32 := constant S_ .f32 0x7F800000#32
  let main_v2 : FVec F S256x576 .f32 := broadcastInDim S256x576 ![] bcast_S_S256x576 main_cst_0
  let main_v3 : IVec S256x576 1 := cmpf .olt main_arg3 main_v2
  let main_v4 : IVec S256x576 1 := andi main_v1 main_v3
  let main_c : IVec S_ 32 := constantI S_ 32 0#32
  let main_v5 : IVec S10x3072 32 := broadcastInDim S10x3072 ![] bcast_S_S10x3072 main_c
  let main_v6 : IVec S10x3072 1 := cmpi .sge main_arg2 main_v5
  let main_c_1 : IVec S_ 32 := constantI S_ 32 256#32
  let main_v7 : IVec S10x3072 32 := broadcastInDim S10x3072 ![] bcast_S_S10x3072 main_c_1
  let main_v8 : IVec S10x3072 1 := cmpi .slt main_arg2 main_v7
  let main_v9 : IVec S10x3072 1 := andi main_v6 main_v8
  (main_v4, main_v9)
-- ==== Hash.lean ====
abbrev S10x3072 : Shape := ⟨2, ![10, 3072]⟩
abbrev S10x7 : Shape := ⟨2, ![10, 7]⟩
abbrev S10x3079 : Shape := ⟨2, ![10, 3079]⟩
abbrev S10x6x3072 : Shape := ⟨3, ![10, 6, 3072]⟩
abbrev S10x1x3072 : Shape := ⟨3, ![10, 1, 3072]⟩
abbrev S10x3072x6 : Shape := ⟨3, ![10, 3072, 6]⟩

abbrev nBuf : Space → Nat
  | .hbm => 6
  | .vmem => 3
  | .smem => 0
  | _ => 0

abbrev bufTy : (tb : Table) → Fin (tcTables nBuf tb) → BufTy
  | .hbm, ⟨0, _⟩ => ⟨S10x3072, .i32⟩
  | .hbm, ⟨1, _⟩ => ⟨S10x7, .i32⟩
  | .hbm, ⟨2, _⟩ => ⟨S10x3072, .i32⟩
  | .hbm, ⟨3, _⟩ => ⟨S10x3079, .i32⟩
  | .hbm, ⟨4, _⟩ => ⟨S10x6x3072, .i32⟩
  | .hbm, ⟨5, _⟩ => ⟨S10x3072x6, .i32⟩
  | .local _ .vmem, ⟨0, _⟩ => ⟨S10x3079, .i32⟩
  | .local _ .vmem, ⟨1, _⟩ => ⟨S10x3072, .i32⟩
  | .local _ .vmem, ⟨2, _⟩ => ⟨S10x6x3072, .i32⟩
  | _, _ => ⟨S10x3072, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S10x3079 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x3072 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x6x3072 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== HashReferenceIdeal.lean ====
abbrev S10x3072 : Shape := ⟨2, ![10, 3072]⟩
abbrev S10x7 : Shape := ⟨2, ![10, 7]⟩
abbrev S10x3079 : Shape := ⟨2, ![10, 3079]⟩
abbrev S_ : Shape := ⟨0, ![]⟩
abbrev S10x3072x1 : Shape := ⟨3, ![10, 3072, 1]⟩
abbrev S10x3072x6 : Shape := ⟨3, ![10, 3072, 6]⟩

abbrev nBuf : Space → Nat
  | .hbm => 255
  | .vmem => 0
  | .smem => 0
  | _ => 0

abbrev hbmTy0_0 (i : Nat) : BufTy := match i % 128 with
  | 0 => ⟨S10x3072, .i32⟩
  | 1 => ⟨S10x7, .i32⟩
  | 2 => ⟨S10x3072, .i32⟩
  | 3 => ⟨S10x3079, .i32⟩
  | 4 => ⟨S10x3079, .i32⟩
  | 5 => ⟨S_, .i32⟩
  | 6 => ⟨S10x3079, .i32⟩
  | 7 => ⟨S10x3079, .i32⟩
  | 8 => ⟨S_, .i32⟩
  | 9 => ⟨S10x3072, .i32⟩
  | 10 => ⟨S10x3072, .i32⟩
  | 11 => ⟨S10x3072, .i32⟩
  | 12 => ⟨S_, .i32⟩
  | 13 => ⟨S10x3072, .i32⟩
  | 14 => ⟨S10x3072, .i1⟩
  | 15 => ⟨S_, .i32⟩
  | 16 => ⟨S10x3072, .i32⟩
  | 17 => ⟨S10x3072, .i32⟩
  | 18 => ⟨S_, .i32⟩
  | 19 => ⟨S10x3072, .i32⟩
  | 20 => ⟨S10x3072, .i32⟩
  | 21 => ⟨S10x3072, .i32⟩
  | 22 => ⟨S_, .i32⟩
  | 23 => ⟨S10x3072, .i32⟩
  | 24 => ⟨S10x3072, .i1⟩
  | 25 => ⟨S_, .i32⟩
  | 26 => ⟨S10x3072, .i32⟩
  | 27 => ⟨S10x3072, .i32⟩
  | 28 => ⟨S_, .i32⟩
  | 29 => ⟨S10x3072, .i32⟩
  | 30 => ⟨S10x3072, .i32⟩
  | 31 => ⟨S10x3072, .i32⟩
  | 32 => ⟨S10x3072, .i32⟩
  | 33 => ⟨S_, .i32⟩
  | 34 => ⟨S10x3072, .i32⟩
  | 35 => ⟨S10x3072, .i1⟩
  | 36 => ⟨S_, .i32⟩
  | 37 => ⟨S10x3072, .i32⟩
  | 38 => ⟨S10x3072, .i32⟩
  | 39 => ⟨S_, .i32⟩
  | 40 => ⟨S10x3072, .i32⟩
  | 41 => ⟨S10x3072, .i32⟩
  | 42 => ⟨S10x3072, .i32⟩
  | 43 => ⟨S_, .i32⟩
  | 44 => ⟨S10x3072, .i32⟩
  | 45 => ⟨S10x3072, .i32⟩
  | 46 => ⟨S_, .i32⟩
  | 47 => ⟨S_, .i32⟩
  | 48 => ⟨S_, .i1⟩
  | 49 => ⟨S_, .i32⟩
  | 50 => ⟨S_, .i32⟩
  | 51 => ⟨S10x3072, .i32⟩
  | 52 => ⟨S10x3072, .i32⟩
  | 53 => ⟨S_, .i32⟩
  | 54 => ⟨S10x3072, .i32⟩
  | 55 => ⟨S10x3072, .i1⟩
  | 56 => ⟨S_, .i32⟩
  | 57 => ⟨S10x3072, .i32⟩
  | 58 => ⟨S10x3072, .i1⟩
  | 59 => ⟨S_, .i32⟩
  | 60 => ⟨S_, .i1⟩
  | 61 => ⟨S10x3072, .i1⟩
  | 62 => ⟨S10x3072, .i1⟩
  | 63 => ⟨S10x3072, .i1⟩
  | 64 => ⟨S10x3072, .i32⟩
  | 65 => ⟨S10x3072, .i32⟩
  | 66 => ⟨S10x3072, .i32⟩
  | 67 => ⟨S10x3072, .i32⟩
  | 68 => ⟨S10x3072, .i32⟩
  | 69 => ⟨S_, .i32⟩
  | 70 => ⟨S10x3072, .i32⟩
  | 71 => ⟨S10x3072, .i1⟩
  | 72 => ⟨S_, .i32⟩
  | 73 => ⟨S10x3072, .i32⟩
  | 74 => ⟨S10x3072, .i32⟩
  | 75 => ⟨S_, .i32⟩
  | 76 => ⟨S10x3072, .i32⟩
  | 77 => ⟨S10x3072, .i32⟩
  | 78 => ⟨S10x3072, .i32⟩
  | 79 => ⟨S_, .i32⟩
  | 80 => ⟨S10x3072, .i32⟩
  | 81 => ⟨S10x3072, .i32⟩
  | 82 => ⟨S_, .i32⟩
  | 83 => ⟨S_, .i32⟩
  | 84 => ⟨S_, .i1⟩
  | 85 => ⟨S_, .i32⟩
  | 86 => ⟨S_, .i32⟩
  | 87 => ⟨S10x3072, .i32⟩
  | 88 => ⟨S10x3072, .i32⟩
  | 89 => ⟨S_, .i32⟩
  | 90 => ⟨S10x3072, .i32⟩
  | 91 => ⟨S10x3072, .i1⟩
  | 92 => ⟨S_, .i32⟩
  | 93 => ⟨S10x3072, .i32⟩
  | 94 => ⟨S10x3072, .i1⟩
  | 95 => ⟨S_, .i32⟩
  | 96 => ⟨S_, .i1⟩
  | 97 => ⟨S10x3072, .i1⟩
  | 98 => ⟨S10x3072, .i1⟩
  | 99 => ⟨S10x3072, .i1⟩
  | 100 => ⟨S10x3072, .i32⟩
  | 101 => ⟨S10x3072, .i32⟩
  | 102 => ⟨S10x3072, .i32⟩
  | 103 => ⟨S10x3072, .i32⟩
  | 104 => ⟨S10x3072, .i32⟩
  | 105 => ⟨S_, .i32⟩
  | 106 => ⟨S10x3072, .i32⟩
  | 107 => ⟨S10x3072, .i1⟩
  | 108 => ⟨S_, .i32⟩
  | 109 => ⟨S10x3072, .i32⟩
  | 110 => ⟨S10x3072, .i32⟩
  | 111 => ⟨S_, .i32⟩
  | 112 => ⟨S10x3072, .i32⟩
  | 113 => ⟨S10x3072, .i32⟩
  | 114 => ⟨S10x3072, .i32⟩
  | 115 => ⟨S_, .i32⟩
  | 116 => ⟨S10x3072, .i32⟩
  | 117 => ⟨S10x3072, .i32⟩
  | 118 => ⟨S_, .i32⟩
  | 119 => ⟨S_, .i32⟩
  | 120 => ⟨S_, .i1⟩
  | 121 => ⟨S_, .i32⟩
  | 122 => ⟨S_, .i32⟩
  | 123 => ⟨S10x3072, .i32⟩
  | 124 => ⟨S10x3072, .i32⟩
  | 125 => ⟨S_, .i32⟩
  | 126 => ⟨S10x3072, .i32⟩
  | 127 => ⟨S10x3072, .i1⟩
  | _ => ⟨S10x3072, .i32⟩

abbrev hbmTy0_1 (i : Nat) : BufTy := match i % 128 with
  | 0 => ⟨S_, .i32⟩
  | 1 => ⟨S10x3072, .i32⟩
  | 2 => ⟨S10x3072, .i1⟩
  | 3 => ⟨S_, .i32⟩
  | 4 => ⟨S_, .i1⟩
  | 5 => ⟨S10x3072, .i1⟩
  | 6 => ⟨S10x3072, .i1⟩
  | 7 => ⟨S10x3072, .i1⟩
  | 8 => ⟨S10x3072, .i32⟩
  | 9 => ⟨S10x3072, .i32⟩
  | 10 => ⟨S10x3072, .i32⟩
  | 11 => ⟨S10x3072, .i32⟩
  | 12 => ⟨S10x3072, .i32⟩
  | 13 => ⟨S_, .i32⟩
  | 14 => ⟨S10x3072, .i32⟩
  | 15 => ⟨S10x3072, .i1⟩
  | 16 => ⟨S_, .i32⟩
  | 17 => ⟨S10x3072, .i32⟩
  | 18 => ⟨S10x3072, .i32⟩
  | 19 => ⟨S_, .i32⟩
  | 20 => ⟨S10x3072, .i32⟩
  | 21 => ⟨S10x3072, .i32⟩
  | 22 => ⟨S10x3072, .i32⟩
  | 23 => ⟨S_, .i32⟩
  | 24 => ⟨S10x3072, .i32⟩
  | 25 => ⟨S10x3072, .i32⟩
  | 26 => ⟨S_, .i32⟩
  | 27 => ⟨S_, .i32⟩
  | 28 => ⟨S_, .i1⟩
  | 29 => ⟨S_, .i32⟩
  | 30 => ⟨S_, .i32⟩
  | 31 => ⟨S10x3072, .i32⟩
  | 32 => ⟨S10x3072, .i32⟩
  | 33 => ⟨S_, .i32⟩
  | 34 => ⟨S10x3072, .i32⟩
  | 35 => ⟨S10x3072, .i1⟩
  | 36 => ⟨S_, .i32⟩
  | 37 => ⟨S10x3072, .i32⟩
  | 38 => ⟨S10x3072, .i1⟩
  | 39 => ⟨S_, .i32⟩
  | 40 => ⟨S_, .i1⟩
  | 41 => ⟨S10x3072, .i1⟩
  | 42 => ⟨S10x3072, .i1⟩
  | 43 => ⟨S10x3072, .i1⟩
  | 44 => ⟨S10x3072, .i32⟩
  | 45 => ⟨S10x3072, .i32⟩
  | 46 => ⟨S10x3072, .i32⟩
  | 47 => ⟨S10x3072, .i32⟩
  | 48 => ⟨S10x3072, .i32⟩
  | 49 => ⟨S_, .i32⟩
  | 50 => ⟨S10x3072, .i32⟩
  | 51 => ⟨S10x3072, .i1⟩
  | 52 => ⟨S_, .i32⟩
  | 53 => ⟨S10x3072, .i32⟩
  | 54 => ⟨S10x3072, .i32⟩
  | 55 => ⟨S_, .i32⟩
  | 56 => ⟨S10x3072, .i32⟩
  | 57 => ⟨S10x3072, .i32⟩
  | 58 => ⟨S10x3072, .i32⟩
  | 59 => ⟨S_, .i32⟩
  | 60 => ⟨S10x3072, .i32⟩
  | 61 => ⟨S10x3072, .i32⟩
  | 62 => ⟨S_, .i32⟩
  | 63 => ⟨S_, .i32⟩
  | 64 => ⟨S_, .i1⟩
  | 65 => ⟨S_, .i32⟩
  | 66 => ⟨S_, .i32⟩
  | 67 => ⟨S10x3072, .i32⟩
  | 68 => ⟨S10x3072, .i32⟩
  | 69 => ⟨S_, .i32⟩
  | 70 => ⟨S10x3072, .i32⟩
  | 71 => ⟨S10x3072, .i1⟩
  | 72 => ⟨S_, .i32⟩
  | 73 => ⟨S10x3072, .i32⟩
  | 74 => ⟨S10x3072, .i1⟩
  | 75 => ⟨S_, .i32⟩
  | 76 => ⟨S_, .i1⟩
  | 77 => ⟨S10x3072, .i1⟩
  | 78 => ⟨S10x3072, .i1⟩
  | 79 => ⟨S10x3072, .i1⟩
  | 80 => ⟨S10x3072, .i32⟩
  | 81 => ⟨S10x3072, .i32⟩
  | 82 => ⟨S10x3072, .i32⟩
  | 83 => ⟨S10x3072, .i32⟩
  | 84 => ⟨S10x3072, .i32⟩
  | 85 => ⟨S_, .i32⟩
  | 86 => ⟨S10x3072, .i32⟩
  | 87 => ⟨S10x3072, .i1⟩
  | 88 => ⟨S_, .i32⟩
  | 89 => ⟨S10x3072, .i32⟩
  | 90 => ⟨S10x3072, .i32⟩
  | 91 => ⟨S_, .i32⟩
  | 92 => ⟨S10x3072, .i32⟩
  | 93 => ⟨S10x3072, .i32⟩
  | 94 => ⟨S10x3072, .i32⟩
  | 95 => ⟨S_, .i32⟩
  | 96 => ⟨S10x3072, .i32⟩
  | 97 => ⟨S10x3072, .i32⟩
  | 98 => ⟨S_, .i32⟩
  | 99 => ⟨S_, .i32⟩
  | 100 => ⟨S_, .i1⟩
  | 101 => ⟨S_, .i32⟩
  | 102 => ⟨S_, .i32⟩
  | 103 => ⟨S10x3072, .i32⟩
  | 104 => ⟨S10x3072, .i32⟩
  | 105 => ⟨S_, .i32⟩
  | 106 => ⟨S10x3072, .i32⟩
  | 107 => ⟨S10x3072, .i1⟩
  | 108 => ⟨S_, .i32⟩
  | 109 => ⟨S10x3072, .i32⟩
  | 110 => ⟨S10x3072, .i1⟩
  | 111 => ⟨S_, .i32⟩
  | 112 => ⟨S_, .i1⟩
  | 113 => ⟨S10x3072, .i1⟩
  | 114 => ⟨S10x3072, .i1⟩
  | 115 => ⟨S10x3072, .i1⟩
  | 116 => ⟨S10x3072, .i32⟩
  | 117 => ⟨S10x3072, .i32⟩
  | 118 => ⟨S10x3072, .i32⟩
  | 119 => ⟨S10x3072, .i32⟩
  | 120 => ⟨S10x3072x1, .i32⟩
  | 121 => ⟨S10x3072x1, .i32⟩
  | 122 => ⟨S10x3072x1, .i32⟩
  | 123 => ⟨S10x3072x1, .i32⟩
  | 124 => ⟨S10x3072x1, .i32⟩
  | 125 => ⟨S10x3072x1, .i32⟩
  | 126 => ⟨S10x3072x6, .i32⟩
  | _ => ⟨S10x3072, .i32⟩

abbrev hbmTy (i : Nat) : BufTy := match i / 128 with
  | 0 => hbmTy0_0 i
  | 1 => hbmTy0_1 i
  | _ => ⟨S10x3072, .i32⟩

abbrev bufTy : (tb : Table) → Fin (tcTables nBuf tb) → BufTy
  | .hbm, ⟨i, _⟩ => hbmTy i
  | _, _ => ⟨S10x3072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_v16 : Ref sig .tc := ⟨.hbm, 27, rfl⟩
abbrev main_c_6 : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_7 : Ref sig .tc := ⟨.hbm, 33, rfl⟩
abbrev main_v20 : Ref sig .tc := ⟨.hbm, 34, rfl⟩
abbrev main_v21 : Ref sig .tc := ⟨.hbm, 35, rfl⟩
abbrev main_c_8 : Ref sig .tc := ⟨.hbm, 36, rfl⟩
abbrev main_v22 : Ref sig .tc := ⟨.hbm, 37, rfl⟩
abbrev main_v23 : Ref sig .tc := ⟨.hbm, 38, rfl⟩
abbrev main_c_9 : Ref sig .tc := ⟨.hbm, 39, rfl⟩
abbrev main_call2_v0 : Ref sig .tc := ⟨.hbm, 40, rfl⟩
abbrev main_v24 : Ref sig .tc := ⟨.hbm, 41, rfl⟩
abbrev main_v25 : Ref sig .tc := ⟨.hbm, 42, rfl⟩
abbrev main_c_10 : Ref sig .tc := ⟨.hbm, 43, rfl⟩
abbrev main_v26 : Ref sig .tc := ⟨.hbm, 44, rfl⟩
abbrev main_v27 : Ref sig .tc := ⟨.hbm, 45, rfl⟩
abbrev main_c_11 : Ref sig .tc := ⟨.hbm, 46, rfl⟩
abbrev main_call3_c : Ref sig .tc := ⟨.hbm, 47, rfl⟩
abbrev main_call3_v0 : Ref sig .tc := ⟨.hbm, 48, rfl⟩
abbrev main_call3_c_0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_c_1 : Ref sig .tc := ⟨.hbm, 53, rfl⟩
abbrev main_call3_v4 : Ref sig .tc := ⟨.hbm, 54, rfl⟩
abbrev main_call3_v5 : Ref sig .tc := ⟨.hbm, 55, rfl⟩
abbrev main_call3_c_2 : Ref sig .tc := ⟨.hbm, 56, rfl⟩
abbrev main_call3_v6 : Ref sig .tc := ⟨.hbm, 57, rfl⟩
abbrev main_call3_v7 : Ref sig .tc := ⟨.hbm, 58, rfl⟩
abbrev main_call3_c_3 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_v12 : Ref sig .tc := ⟨.hbm, 64, rfl⟩
abbrev main_call3_v13 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_c_12 : Ref sig .tc := ⟨.hbm, 69, rfl⟩
abbrev main_v31 : Ref sig .tc := ⟨.hbm, 70, rfl⟩
abbrev main_v32 : Ref sig .tc := ⟨.hbm, 71, rfl⟩
abbrev main_c_13 : Ref sig .tc := ⟨.hbm, 72, rfl⟩
abbrev main_v33 : Ref sig .tc := ⟨.hbm, 73, rfl⟩
abbrev main_v34 : Ref sig .tc := ⟨.hbm, 74, rfl⟩
abbrev main_c_14 : Ref sig .tc := ⟨.hbm, 75, rfl⟩
abbrev main_call4_v0 : Ref sig .tc := ⟨.hbm, 76, rfl⟩
abbrev main_v35 : Ref sig .tc := ⟨.hbm, 77, rfl⟩
abbrev main_v36 : Ref sig .tc := ⟨.hbm, 78, rfl⟩
abbrev main_c_15 : Ref sig .tc := ⟨.hbm, 79, rfl⟩
abbrev main_v37 : Ref sig .tc := ⟨.hbm, 80, rfl⟩
abbrev main_v38 : Ref sig .tc := ⟨.hbm, 81, rfl⟩
abbrev main_c_16 : Ref sig .tc := ⟨.hbm, 82, rfl⟩
abbrev main_call5_c : Ref sig .tc := ⟨.hbm, 83, rfl⟩
abbrev main_call5_v0 : Ref sig .tc := ⟨.hbm, 84, rfl⟩
abbrev main_call5_c_0 : Ref sig .tc := ⟨.hbm, 85, rfl⟩
abbrev main_call5_v1 : Ref sig .tc := ⟨.hbm, 86, rfl⟩
abbrev main_call5_v2 : Ref sig .tc := ⟨.hbm, 87, rfl⟩
abbrev main_call5_v3 : Ref sig .tc := ⟨.hbm, 88, rfl⟩
abbrev main_call5_c_1 : Ref sig .tc := ⟨.hbm, 89, rfl⟩
abbrev main_call5_v4 : Ref sig .tc := ⟨.hbm, 90, rfl⟩
abbrev main_call5_v5 : Ref sig .tc := ⟨.hbm, 91, rfl⟩
abbrev main_call5_c_2 : Ref sig .tc := ⟨.hbm, 92, rfl⟩
abbrev main_call5_v6 : Ref sig .tc := ⟨.hbm, 93, rfl⟩
abbrev main_call5_v7 : Ref sig .tc := ⟨.hbm, 94, rfl⟩
abbrev main_call5_c_3 : Ref sig .tc := ⟨.hbm, 95, rfl⟩
abbrev main_call5_v8 : Ref sig .tc := ⟨.hbm, 96, rfl⟩
abbrev main_call5_v9 : Ref sig .tc := ⟨.hbm, 97, rfl⟩
abbrev main_call5_v10 : Ref sig .tc := ⟨.hbm, 98, rfl⟩
abbrev main_call5_v11 : Ref sig .tc := ⟨.hbm, 99, rfl⟩
abbrev main_call5_v12 : Ref sig .tc := ⟨.hbm, 100, rfl⟩
abbrev main_call5_v13 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_c_17 : Ref sig .tc := ⟨.hbm, 105, rfl⟩
abbrev main_v42 : Ref sig .tc := ⟨.hbm, 106, rfl⟩
abbrev main_v43 : Ref sig .tc := ⟨.hbm, 107, rfl⟩
abbrev main_c_18 : Ref sig .tc := ⟨.hbm, 108, rfl⟩
abbrev main_v44 : Ref sig .tc := ⟨.hbm, 109, rfl⟩
abbrev main_v45 : Ref sig .tc := ⟨.hbm, 110, rfl⟩
abbrev main_c_19 : Ref sig .tc := ⟨.hbm, 111, rfl⟩
abbrev main_call6_v0 : Ref sig .tc := ⟨.hbm, 112, rfl⟩
abbrev main_v46 : Ref sig .tc := ⟨.hbm, 113, rfl⟩
abbrev main_v47 : Ref sig .tc := ⟨.hbm, 114, rfl⟩
abbrev main_c_20 : Ref sig .tc := ⟨.hbm, 115, rfl⟩
abbrev main_v48 : Ref sig .tc := ⟨.hbm, 116, rfl⟩
abbrev main_v49 : Ref sig .tc := ⟨.hbm, 117, rfl⟩
abbrev main_c_21 : Ref sig .tc := ⟨.hbm, 118, rfl⟩
abbrev main_call7_c : Ref sig .tc := ⟨.hbm, 119, rfl⟩
abbrev main_call7_v0 : Ref sig .tc := ⟨.hbm, 120, rfl⟩
abbrev main_call7_c_0 : Ref sig .tc := ⟨.hbm, 121, rfl⟩
abbrev main_call7_v1 : Ref sig .tc := ⟨.hbm, 122, rfl⟩
abbrev main_call7_v2 : Ref sig .tc := ⟨.hbm, 123, rfl⟩
abbrev main_call7_v3 : Ref sig .tc := ⟨.hbm, 124, rfl⟩
abbrev main_call7_c_1 : Ref sig .tc := ⟨.hbm, 125, rfl⟩
abbrev main_call7_v4 : Ref sig .tc := ⟨.hbm, 126, rfl⟩
abbrev main_call7_v5 : Ref sig .tc := ⟨.hbm, 127, rfl⟩
abbrev main_call7_c_2 : Ref sig .tc := ⟨.hbm, 128, rfl⟩
abbrev main_call7_v6 : Ref sig .tc := ⟨.hbm, 129, rfl⟩
abbrev main_call7_v7 : Ref sig .tc := ⟨.hbm, 130, rfl⟩
abbrev main_call7_c_3 : Ref sig .tc := ⟨.hbm, 131, rfl⟩
abbrev main_call7_v8 : Ref sig .tc := ⟨.hbm, 132, rfl⟩
abbrev main_call7_v9 : Ref sig .tc := ⟨.hbm, 133, rfl⟩
abbrev main_call7_v10 : Ref sig .tc := ⟨.hbm, 134, rfl⟩
abbrev main_call7_v11 : Ref sig .tc := ⟨.hbm, 135, rfl⟩
abbrev main_call7_v12 : Ref sig .tc := ⟨.hbm, 136, rfl⟩
abbrev main_call7_v13 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_c_22 : Ref sig .tc := ⟨.hbm, 141, rfl⟩
abbrev main_v53 : Ref sig .tc := ⟨.hbm, 142, rfl⟩
abbrev main_v54 : Ref sig .tc := ⟨.hbm, 143, rfl⟩
abbrev main_c_23 : Ref sig .tc := ⟨.hbm, 144, rfl⟩
abbrev main_v55 : Ref sig .tc := ⟨.hbm, 145, rfl⟩
abbrev main_v56 : Ref sig .tc := ⟨.hbm, 146, rfl⟩
abbrev main_c_24 : Ref sig .tc := ⟨.hbm, 147, rfl⟩
abbrev main_call8_v0 : Ref sig .tc := ⟨.hbm, 148, rfl⟩
abbrev main_v57 : Ref sig .tc := ⟨.hbm, 149, rfl⟩
abbrev main_v58 : Ref sig .tc := ⟨.hbm, 150, rfl⟩
abbrev main_c_25 : Ref sig .tc := ⟨.hbm, 151, rfl⟩
abbrev main_v59 : Ref sig .tc := ⟨.hbm, 152, rfl⟩
abbrev main_v60 : Ref sig .tc := ⟨.hbm, 153, rfl⟩
abbrev main_c_26 : Ref sig .tc := ⟨.hbm, 154, rfl⟩
abbrev main_call9_c : Ref sig .tc := ⟨.hbm, 155, rfl⟩
abbrev main_call9_v0 : Ref sig .tc := ⟨.hbm, 156, rfl⟩
abbrev main_call9_c_0 : Ref sig .tc := ⟨.hbm, 157, rfl⟩
abbrev main_call9_v1 : Ref sig .tc := ⟨.hbm, 158, rfl⟩
abbrev main_call9_v2 : Ref sig .tc := ⟨.hbm, 159, rfl⟩
abbrev main_call9_v3 : Ref sig .tc := ⟨.hbm, 160, rfl⟩
abbrev main_call9_c_1 : Ref sig .tc := ⟨.hbm, 161, rfl⟩
abbrev main_call9_v4 : Ref sig .tc := ⟨.hbm, 162, rfl⟩
abbrev main_call9_v5 : Ref sig .tc := ⟨.hbm, 163, rfl⟩
abbrev main_call9_c_2 : Ref sig .tc := ⟨.hbm, 164, rfl⟩
abbrev main_call9_v6 : Ref sig .tc := ⟨.hbm, 165, rfl⟩
abbrev main_call9_v7 : Ref sig .tc := ⟨.hbm, 166, rfl⟩
abbrev main_call9_c_3 : Ref sig .tc := ⟨.hbm, 167, rfl⟩
abbrev main_call9_v8 : Ref sig .tc := ⟨.hbm, 168, rfl⟩
abbrev main_call9_v9 : Ref sig .tc := ⟨.hbm, 169, rfl⟩
abbrev main_call9_v10 : Ref sig .tc := ⟨.hbm, 170, rfl⟩
abbrev main_call9_v11 : Ref sig .tc := ⟨.hbm, 171, rfl⟩
abbrev main_call9_v12 : Ref sig .tc := ⟨.hbm, 172, rfl⟩
abbrev main_call9_v13 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_c_27 : Ref sig .tc := ⟨.hbm, 177, rfl⟩
abbrev main_v64 : Ref sig .tc := ⟨.hbm, 178, rfl⟩
abbrev main_v65 : Ref sig .tc := ⟨.hbm, 179, rfl⟩
abbrev main_c_28 : Ref sig .tc := ⟨.hbm, 180, rfl⟩
abbrev main_v66 : Ref sig .tc := ⟨.hbm, 181, rfl⟩
abbrev main_v67 : Ref sig .tc := ⟨.hbm, 182, rfl⟩
abbrev main_c_29 : Ref sig .tc := ⟨.hbm, 183, rfl⟩
abbrev main_call10_v0 : Ref sig .tc := ⟨.hbm, 184, rfl⟩
abbrev main_v68 : Ref sig .tc := ⟨.hbm, 185, rfl⟩
abbrev main_v69 : Ref sig .tc := ⟨.hbm, 186, rfl⟩
abbrev main_c_30 : Ref sig .tc := ⟨.hbm, 187, rfl⟩
abbrev main_v70 : Ref sig .tc := ⟨.hbm, 188, rfl⟩
abbrev main_v71 : Ref sig .tc := ⟨.hbm, 189, rfl⟩
abbrev main_c_31 : Ref sig .tc := ⟨.hbm, 190, rfl⟩
abbrev main_call11_c : Ref sig .tc := ⟨.hbm, 191, rfl⟩
abbrev main_call11_v0 : Ref sig .tc := ⟨.hbm, 192, rfl⟩
abbrev main_call11_c_0 : Ref sig .tc := ⟨.hbm, 193, rfl⟩
abbrev main_call11_v1 : Ref sig .tc := ⟨.hbm, 194, rfl⟩
abbrev main_call11_v2 : Ref sig .tc := ⟨.hbm, 195, rfl⟩
abbrev main_call11_v3 : Ref sig .tc := ⟨.hbm, 196, rfl⟩
abbrev main_call11_c_1 : Ref sig .tc := ⟨.hbm, 197, rfl⟩
abbrev main_call11_v4 : Ref sig .tc := ⟨.hbm, 198, rfl⟩
abbrev main_call11_v5 : Ref sig .tc := ⟨.hbm, 199, rfl⟩
abbrev main_call11_c_2 : Ref sig .tc := ⟨.hbm, 200, rfl⟩
abbrev main_call11_v6 : Ref sig .tc := ⟨.hbm, 201, rfl⟩
abbrev main_call11_v7 : Ref sig .tc := ⟨.hbm, 202, rfl⟩
abbrev main_call11_c_3 : Ref sig .tc := ⟨.hbm, 203, rfl⟩
abbrev main_call11_v8 : Ref sig .tc := ⟨.hbm, 204, rfl⟩
abbrev main_call11_v9 : Ref sig .tc := ⟨.hbm, 205, rfl⟩
abbrev main_call11_v10 : Ref sig .tc := ⟨.hbm, 206, rfl⟩
abbrev main_call11_v11 : Ref sig .tc := ⟨.hbm, 207, rfl⟩
abbrev main_call11_v12 : Ref sig .tc := ⟨.hbm, 208, rfl⟩
abbrev main_call11_v13 : Ref sig .tc := ⟨.hbm, 209, rfl⟩
abbrev main_v72 : Ref sig .tc := ⟨.hbm, 210, rfl⟩
abbrev main_v73 : Ref sig .tc := ⟨.hbm, 211, rfl⟩
abbrev main_v74 : Ref sig .tc := ⟨.hbm, 212, rfl⟩
abbrev main_c_32 : Ref sig .tc := ⟨.hbm, 213, rfl⟩
abbrev main_v75 : Ref sig .tc := ⟨.hbm, 214, rfl⟩
abbrev main_v76 : Ref sig .tc := ⟨.hbm, 215, rfl⟩
abbrev main_c_33 : Ref sig .tc := ⟨.hbm, 216, rfl⟩
abbrev main_v77 : Ref sig .tc := ⟨.hbm, 217, rfl⟩
abbrev main_v78 : Ref sig .tc := ⟨.hbm, 218, rfl⟩
abbrev main_c_34 : Ref sig .tc := ⟨.hbm, 219, rfl⟩
abbrev main_call12_v0 : Ref sig .tc := ⟨.hbm, 220, rfl⟩
abbrev main_v79 : Ref sig .tc := ⟨.hbm, 221, rfl⟩
abbrev main_v80 : Ref sig .tc := ⟨.hbm, 222, rfl⟩
abbrev main_c_35 : Ref sig .tc := ⟨.hbm, 223, rfl⟩
abbrev main_v81 : Ref sig .tc := ⟨.hbm, 224, rfl⟩
abbrev main_v82 : Ref sig .tc := ⟨.hbm, 225, rfl⟩
abbrev main_c_36 : Ref sig .tc := ⟨.hbm, 226, rfl⟩
abbrev main_call13_c : Ref sig .tc := ⟨.hbm, 227, rfl⟩
abbrev main_call13_v0 : Ref sig .tc := ⟨.hbm, 228, rfl⟩
abbrev main_call13_c_0 : Ref sig .tc := ⟨.hbm, 229, rfl⟩
abbrev main_call13_v1 : Ref sig .tc := ⟨.hbm, 230, rfl⟩
abbrev main_call13_v2 : Ref sig .tc := ⟨.hbm, 231, rfl⟩
abbrev main_call13_v3 : Ref sig .tc := ⟨.hbm, 232, rfl⟩
abbrev main_call13_c_1 : Ref sig .tc := ⟨.hbm, 233, rfl⟩
abbrev main_call13_v4 : Ref sig .tc := ⟨.hbm, 234, rfl⟩
abbrev main_call13_v5 : Ref sig .tc := ⟨.hbm, 235, rfl⟩
abbrev main_call13_c_2 : Ref sig .tc := ⟨.hbm, 236, rfl⟩
abbrev main_call13_v6 : Ref sig .tc := ⟨.hbm, 237, rfl⟩
abbrev main_call13_v7 : Ref sig .tc := ⟨.hbm, 238, rfl⟩
abbrev main_call13_c_3 : Ref sig .tc := ⟨.hbm, 239, rfl⟩
abbrev main_call13_v8 : Ref sig .tc := ⟨.hbm, 240, rfl⟩
abbrev main_call13_v9 : Ref sig .tc := ⟨.hbm, 241, rfl⟩
abbrev main_call13_v10 : Ref sig .tc := ⟨.hbm, 242, rfl⟩
abbrev main_call13_v11 : Ref sig .tc := ⟨.hbm, 243, rfl⟩
abbrev main_call13_v12 : Ref sig .tc := ⟨.hbm, 244, rfl⟩
abbrev main_call13_v13 : Ref sig .tc := ⟨.hbm, 245, rfl⟩
abbrev main_v83 : Ref sig .tc := ⟨.hbm, 246, rfl⟩
abbrev main_v84 : Ref sig .tc := ⟨.hbm, 247, rfl⟩
abbrev main_v85 : Ref sig .tc := ⟨.hbm, 248, rfl⟩
abbrev main_v86 : Ref sig .tc := ⟨.hbm, 249, rfl⟩
abbrev main_v87 : Ref sig .tc := ⟨.hbm, 250, rfl⟩
abbrev main_v88 : Ref sig .tc := ⟨.hbm, 251, rfl⟩
abbrev main_v89 : Ref sig .tc := ⟨.hbm, 252, rfl⟩
abbrev main_v90 : Ref sig .tc := ⟨.hbm, 253, rfl⟩
abbrev main_v91 : Ref sig .tc := ⟨.hbm, 254, rfl⟩

abbrev nD : Nat := 1
abbrev τ : Topo := Topo.v7x

variable {F : FTy → Type} [FloatOps F]
-- ==== Combine.lean ====
abbrev S184320x144 : Shape := ⟨2, ![184320, 144]⟩
abbrev S1440x128 : Shape := ⟨2, ![1440, 128]⟩
abbrev S10x3072 : Shape := ⟨2, ![10, 3072]⟩
abbrev S256x576 : Shape := ⟨2, ![256, 576]⟩
abbrev S576x256 : Shape := ⟨2, ![576, 256]⟩
abbrev S10x6x3456x128 : Shape := ⟨4, ![10, 6, 3456, 128]⟩
abbrev S10x6x3072 : Shape := ⟨3, ![10, 6, 3072]⟩
abbrev S10x576x3072 : Shape := ⟨3, ![10, 576, 3072]⟩
abbrev S1x6x1152x128 : Shape := ⟨4, ![1, 6, 1152, 128]⟩
abbrev S1x6x1024 : Shape := ⟨3, ![1, 6, 1024]⟩
abbrev S1x576x1024 : Shape := ⟨3, ![1, 576, 1024]⟩
abbrev S576x768 : Shape := ⟨2, ![576, 768]⟩
abbrev S6x1152x128 : Shape := ⟨3, ![6, 1152, 128]⟩
abbrev S1x1x128x128 : Shape := ⟨4, ![1, 1, 128, 128]⟩
abbrev S128x128 : Shape := ⟨2, ![128, 128]⟩
abbrev S1x128x128 : Shape := ⟨3, ![1, 128, 128]⟩
abbrev S1x256 : Shape := ⟨2, ![1, 256]⟩
abbrev S256x256 : Shape := ⟨2, ![256, 256]⟩
abbrev S768x256 : Shape := ⟨2, ![768, 256]⟩
abbrev S1x1x128 : Shape := ⟨3, ![1, 1, 128]⟩
abbrev S1x128 : Shape := ⟨2, ![1, 128]⟩
abbrev S1x8x128 : Shape := ⟨3, ![1, 8, 128]⟩
abbrev S8x128 : Shape := ⟨2, ![8, 128]⟩
abbrev S32x128 : Shape := ⟨2, ![32, 128]⟩
abbrev S1x32x128 : Shape := ⟨3, ![1, 32, 128]⟩
abbrev S10x3072x576 : Shape := ⟨3, ![10, 3072, 576]⟩
abbrev S10x7x576 : Shape := ⟨3, ![10, 7, 576]⟩

abbrev nBuf : Space → Nat
  | .hbm => 10
  | .vmem => 11
  | .smem => 0
  | _ => 0

abbrev bufTy : (tb : Table) → Fin (tcTables nBuf tb) → BufTy
  | .hbm, ⟨0, _⟩ => ⟨S184320x144, .i32⟩
  | .hbm, ⟨1, _⟩ => ⟨S1440x128, .f32⟩
  | .hbm, ⟨2, _⟩ => ⟨S10x3072, .i32⟩
  | .hbm, ⟨3, _⟩ => ⟨S256x576, .f32⟩
  | .hbm, ⟨4, _⟩ => ⟨S576x256, .f32⟩
  | .hbm, ⟨5, _⟩ => ⟨S10x6x3456x128, .i32⟩
  | .hbm, ⟨6, _⟩ => ⟨S10x6x3072, .f32⟩
  | .hbm, ⟨7, _⟩ => ⟨S10x576x3072, .bf16⟩
  | .hbm, ⟨8, _⟩ => ⟨S10x3072x576, .bf16⟩
  | .hbm, ⟨9, _⟩ => ⟨S10x7x576, .bf16⟩
  | .local _ .vmem, ⟨0, _⟩ => ⟨S1x6x1152x128, .i32⟩
  | .local _ .vmem, ⟨1, _⟩ => ⟨S1x6x1152x128, .i32⟩
  | .local _ .vmem, ⟨2, _⟩ => ⟨S1x6x1024, .f32⟩
  | .local _ .vmem, ⟨3, _⟩ => ⟨S1x6x1024, .f32⟩
  | .local _ .vmem, ⟨4, _⟩ => ⟨S10x3072, .i32⟩
  | .local _ .vmem, ⟨5, _⟩ => ⟨S576x256, .f32⟩
  | .local _ .vmem, ⟨6, _⟩ => ⟨S1x576x1024, .bf16⟩
  | .local _ .vmem, ⟨7, _⟩ => ⟨S1x576x1024, .bf16⟩
  | .local _ .vmem, ⟨8, _⟩ => ⟨S576x768, .bf16⟩
  | .local _ .vmem, ⟨9, _⟩ => ⟨S6x1152x128, .i32⟩
  | .local _ .vmem, ⟨10, _⟩ => ⟨S576x256, .f32⟩
  | _, _ => ⟨S184320x144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![10, 3], ![false, false]⟩

def k0_mult1 (i : grid0.Coords) : BitVec 32 :=
  let arg1 : BitVec 32 := BitVec.ofNat 32 (i 1).val
  let c1024_i32 : BitVec 32 := 1024#32
  let v329 : BitVec 32 := Scalar.muli arg1 c1024_i32
  v329
def k0_off1 (i : grid0.Coords) (c0_i32_363 : BitVec 32) : Fin 2 → Nat :=
  let arg0 : BitVec 32 := BitVec.ofNat 32 (i 0).val
  let v332 : Index := Scalar.indexCast arg0
  let arg1 : BitVec 32 := BitVec.ofNat 32 (i 1).val
  let c1024_i32 : BitVec 32 := 1024#32
  let v329 : BitVec 32 := Scalar.muli arg1 c1024_i32
  let v330 : BitVec 32 := v329
  let v331 : BitVec 32 := Scalar.addi v330 c0_i32_363
  let v333 : Index := Scalar.indexCast v331
  ![v332.toNat, v333.toNat]
def k0_mult2 (i : grid0.Coords) : BitVec 32 :=
  let arg1 : BitVec 32 := BitVec.ofNat 32 (i 1).val
  let c1024_i32_1193 : BitVec 32 := 1024#32
  let v2063 : BitVec 32 := Scalar.muli arg1 c1024_i32_1193
  v2063
def k0_mult3 (i : grid0.Coords) : BitVec 32 :=
  let arg1 : BitVec 32 := BitVec.ofNat 32 (i 1).val
  let c1024_i32_2036 : BitVec 32 := 1024#32
  let v3797 : BitVec 32 := Scalar.muli arg1 c1024_i32_2036
  v3797
def k0_mult4 (i : grid0.Coords) : BitVec 32 :=
  let arg1 : BitVec 32 := BitVec.ofNat 32 (i 1).val
  let c1024_i32_2872 : BitVec 32 := 1024#32
  let v5531 : BitVec 32 := Scalar.muli arg1 c1024_i32_2872
  v5531
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x6x1152x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10x3072 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S576x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x576x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CombineReferenceIdeal.lean ====
abbrev S184320x144 : Shape := ⟨2, ![184320, 144]⟩
abbrev S1440x128 : Shape := ⟨2, ![1440, 128]⟩
abbrev S10x3072 : Shape := ⟨2, ![10, 3072]⟩
abbrev S256x576 : Shape := ⟨2, ![256, 576]⟩
abbrev S184320x144x4 : Shape := ⟨3, ![184320, 144, 4]⟩
abbrev S10x6x3x128x8x576 : Shape := ⟨6, ![10, 6, 3, 128, 8, 576]⟩
abbrev S10x6x3x8x128x576 : Shape := ⟨6, ![10, 6, 3, 8, 128, 576]⟩
abbrev S10x6x3072x576 : Shape := ⟨4, ![10, 6, 3072, 576]⟩
abbrev S10x6x3072 : Shape := ⟨3, ![10, 6, 3072]⟩
abbrev S10x6x3072x1 : Shape := ⟨4, ![10, 6, 3072, 1]⟩
abbrev S_ : Shape := ⟨0, ![]⟩
abbrev S10x3072x576 : Shape := ⟨3, ![10, 3072, 576]⟩
abbrev S10x3072x1 : Shape := ⟨3, ![10, 3072, 1]⟩
abbrev S10x7x576 : Shape := ⟨3, ![10, 7, 576]⟩

abbrev nBuf : Space → Nat
  | .hbm => 21
  | .vmem => 0
  | .smem => 0
  | _ => 0

abbrev bufTy : (tb : Table) → Fin (tcTables nBuf tb) → BufTy
  | .hbm, ⟨0, _⟩ => ⟨S184320x144, .i32⟩
  | .hbm, ⟨1, _⟩ => ⟨S1440x128, .f32⟩
  | .hbm, ⟨2, _⟩ => ⟨S10x3072, .i32⟩
  | .hbm, ⟨3, _⟩ => ⟨S256x576, .f32⟩
  | .hbm, ⟨4, _⟩ => ⟨S184320x144x4, .i8⟩
  | .hbm, ⟨5, _⟩ => ⟨S10x6x3x128x8x576, .i8⟩
  | .hbm, ⟨6, _⟩ => ⟨S10x6x3x8x128x576, .i8⟩
  | .hbm, ⟨7, _⟩ => ⟨S10x6x3072x576, .i8⟩
  | .hbm, ⟨8, _⟩ => ⟨S10x6x3072, .f32⟩
  | .hbm, ⟨9, _⟩ => ⟨S10x6x3072x576, .i32⟩
  | .hbm, ⟨10, _⟩ => ⟨S10x6x3072x576, .f32⟩
  | .hbm, ⟨11, _⟩ => ⟨S10x6x3072x1, .f32⟩
  | .hbm, ⟨12, _⟩ => ⟨S10x6x3072x576, .f32⟩
  | .hbm, ⟨13, _⟩ => ⟨S10x6x3072x576, .f32⟩
  | .hbm, ⟨14, _⟩ => ⟨S_, .f32⟩
  | .hbm, ⟨15, _⟩ => ⟨S10x3072x576, .f32⟩
  | .hbm, ⟨16, _⟩ => ⟨S10x3072x1, .i32⟩
  | .hbm, ⟨17, _⟩ => ⟨S10x3072x576, .f32⟩
  | .hbm, ⟨18, _⟩ => ⟨S10x3072x576, .f32⟩
  | .hbm, ⟨19, _⟩ => ⟨S10x3072x576, .bf16⟩
  | .hbm, ⟨20, _⟩ => ⟨S10x7x576, .bf16⟩
  | _, _ => ⟨S184320x144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.HashArith.lean ====
module

public import Idealize.ShloMosaic.Lib.Pointwise

@[expose] public section

noncomputable section

open Idealize.ShloMosaic

namespace Cert.HashArith

/-- The float constant the kernel multiplies by, as a real number. -/
theorem recip_eq : Ideal.ofBits .f32 0x388637BD#32 = ((8796093 / 137438953472 : ℝ) : EReal) := by
  simp [Ideal.ofBits, Ideal.ieee, -EReal.coe_mul]
  norm_num

/-- A natural number below `2 ^ 27` times that constant, truncated to an integer. -/
theorem quotient (K : Nat) (hK : K < 134217728) :
    Ideal.fptosi 32 (((K : ℝ) : EReal) * Ideal.ofBits .f32 0x388637BD#32)
      = BitVec.ofNat 32 (K * 8796093 / 137438953472) := by
  obtain ⟨q, hq⟩ : ∃ q, q = K * 8796093 / 137438953472 := ⟨_, rfl⟩
  have h1 : q * 137438953472 ≤ K * 8796093 := by omega
  have h2 : K * 8796093 < (q + 1) * 137438953472 := by omega
  have hb : q < 2147483647 := by omega
  have hfl : ⌊(K : ℝ) * (8796093 / 137438953472)⌋ = (q : Int) := by
    have h1' : (q : ℝ) * 137438953472 ≤ K * 8796093 := by exact_mod_cast h1
    have h2' : (K : ℝ) * 8796093 < (q + 1) * 137438953472 := by exact_mod_cast h2
    rw [Int.floor_eq_iff]
    push_cast
    constructor <;> linarith
  rw [← hq, recip_eq, ← EReal.coe_mul, Ideal.fptosi, Ideal.toIntClamped_coe, if_pos (by positivity), hfl]
  have hm : max (-((2 ^ (32 - 1) : Nat) : Int)) (min (((2 ^ (32 - 1) : Nat) : Int) - 1) (q : Int)) = (q : Int) := by
    norm_num
    omega
  rw [hm]
  rfl

/-- Five low bits and the rest, put side by side. -/
theorem or_low (s h : BitVec 32) (hs : s.toNat < 15625) :
    ((s <<< 5) ||| (h &&& 31#32)).toNat = s.toNat * 32 + h.toNat % 32 := by
  have hm : (h &&& 31#32).toNat = h.toNat % 32 := by
    rw [BitVec.toNat_and]
    exact Nat.and_two_pow_sub_one_eq_mod h.toNat 5
  have hsh : (s <<< 5).toNat = s.toNat <<< 5 := by
    rw [BitVec.toNat_shiftLeft, Nat.mod_eq_of_lt]
    rw [Nat.shiftLeft_eq]
    omega
  rw [BitVec.toNat_or, hm, hsh, ← Nat.shiftLeft_add_eq_or_of_lt (Nat.mod_lt _ (by norm_num)), Nat.shiftLeft_eq]

/-- The remainder by `500000 = 32 * 15625` as the kernel takes it: the upper 27 bits of the word by
    `15625`, through a truncated product corrected by at most one, then the lower five bits put back. -/
theorem mod_word (h k q r s : BitVec 32) (hk : k.toNat = h.toNat / 32)
    (hq : q = BitVec.ofNat 32 (k.toNat * 8796093 / 137438953472)) (hr : r = k - q * 15625#32)
    (hs : s = if 15625 ≤ r.toNat then r - 15625#32 else r) :
    r.toNat < 31250 ∧ (s <<< 5) ||| (h &&& 31#32) = h % 500000#32 := by
  have hlt := h.isLt
  have hqn : q.toNat = k.toNat * 8796093 / 137438953472 := by
    rw [hq, BitVec.toNat_ofNat, Nat.mod_eq_of_lt]
    omega
  have hle : q.toNat * 15625 ≤ k.toNat ∧ k.toNat < q.toNat * 15625 + 31250 := by omega
  have hmul : (q * 15625#32).toNat = q.toNat * 15625 := by
    rw [BitVec.toNat_mul]
    exact Nat.mod_eq_of_lt (by simp; omega)
  have hrn : r.toNat = k.toNat - q.toNat * 15625 := by
    rw [hr, BitVec.toNat_sub, hmul]
    omega
  have hsn : s.toNat = k.toNat % 15625 := by
    rw [hs]
    split
    · rename_i h15
      rw [BitVec.toNat_sub_of_le (show 15625#32 ≤ r from h15)]
      have h0 : (15625#32).toNat = 15625 := rfl
      omega
    · omega
  refine ⟨by omega, ?_⟩
  apply BitVec.eq_of_toNat_eq
  have h0 : (500000#32).toNat = 500000 := rfl
  rw [or_low _ _ (by omega), BitVec.toNat_umod, hsn, h0]
  omega

/-- The same, from the words as the operations spell them. -/
theorem mod_vocab (h : BitVec 32) (k : BitVec 32) (hk : k = IntOp.shrui ArithUnit.vector h 5#32) (q : BitVec 32)
    (hq : q = Ideal.fptosi 32 (((k.toInt : ℝ) : EReal) * Ideal.ofBits .f32 0x388637BD#32)) (r : BitVec 32)
    (hr : r = IntOp.subi k (IntOp.muli q 15625#32)) (r' : BitVec 32)
    (hr' : r' = Scalar.select (IntOp.cmpi CmpIPredicate.slt r 0#32) (IntOp.addi r 15625#32) r) (s : BitVec 32)
    (hs : s = Scalar.select (IntOp.cmpi CmpIPredicate.sge r' 15625#32) (IntOp.subi r' 15625#32) r') :
    IntOp.ori (IntOp.shli ArithUnit.vector s 5#32) (IntOp.andi h 31#32) = h % 500000#32 := by
  have hlt := h.isLt
  have hk1 : k = h >>> 5 := hk
  have hkn : k.toNat = h.toNat / 32 := by
    rw [hk1, BitVec.toNat_ushiftRight, Nat.shiftRight_eq_div_pow]
  have hq1 : q = BitVec.ofNat 32 (k.toNat * 8796093 / 137438953472) := by
    rw [hq, ← quotient _ (by omega), BitVec.toInt_eq_toNat_of_lt (by omega)]
    rfl
  have hr1 : r = k - q * 15625#32 := hr
  obtain ⟨hrl, hfin⟩ := mod_word h k q r _ hkn hq1 hr1 rfl
  have hri : r.toInt = r.toNat := BitVec.toInt_eq_toNat_of_lt (by omega)
  have e4 : r' = r := by
    have : IntOp.cmpi CmpIPredicate.slt r 0#32 = 0#1 := by
      have h0 : ¬ ((r.toNat : Int) < 0) := by omega
      simp [IntOp.cmpi, BitVec.slt, hri, h0]
    rw [hr', this]; rfl
  rw [← hfin, hs, e4]
  have e5 : Scalar.select (IntOp.cmpi CmpIPredicate.sge r 15625#32) (IntOp.subi r 15625#32) r
      = if 15625 ≤ r.toNat then r - 15625#32 else r := by
    by_cases h15 : 15625 ≤ r.toNat
    · have : IntOp.cmpi CmpIPredicate.sge r 15625#32 = 1#1 := by
        simp [IntOp.cmpi, BitVec.sle, hri, h15]
      rw [this, if_pos h15]; rfl
    · have : IntOp.cmpi CmpIPredicate.sge r 15625#32 = 0#1 := by
        simp [IntOp.cmpi, BitVec.sle, hri, h15]
      rw [this, if_neg h15]; rfl
  rw [e5]
  rfl

/-- The reference's remainder by `500000`: never negative, so its sign correction never acts. -/
theorem rem_vocab (h : BitVec 32) (q : BitVec 32) (hq : q = IntOp.remui ArithUnit.host h 500000#32) :
    Scalar.select
      (IntOp.andi
        (IntOp.cmpi CmpIPredicate.ne (IntOp.cmpi CmpIPredicate.ult q 0#32) (IntOp.cmpi CmpIPredicate.ult 500000#32 0#32))
        (IntOp.cmpi CmpIPredicate.ne q 0#32)) (IntOp.addi q 500000#32) q = h % 500000#32 := by
  have e1 : IntOp.cmpi CmpIPredicate.ult q 0#32 = 0#1 := by simp [IntOp.cmpi, BitVec.ult]
  have e2 : IntOp.cmpi CmpIPredicate.ult 500000#32 0#32 = 0#1 := by decide
  have e3 : IntOp.cmpi CmpIPredicate.ne 0#1 0#1 = 0#1 := by decide
  have e4 : ∀ x : BitVec 1, IntOp.andi 0#1 x = 0#1 := by decide
  rw [e1, e2, e3, e4, hq]
  rfl

end Cert.HashArith

end
-- ==== Proof.HashMod.lean ====
module

public import proofs.«01_k».proof.Proof.Gen.HashIdeal.Frame
public import proofs.«01_k».proof.Proof.HashArith
public import Idealize.ShloMosaic.Lib.Pipeline.ValueKit

@[expose] public section

set_option maxRecDepth 16384

noncomputable section

open Idealize.ShloMosaic

namespace Cert.HashIdeal.Value
open Cert.HashIdeal Cert.HashIdeal.Gen

/-- One stored piece of the kernel, at an index: the hash word modulo `500000`. -/
theorem pay5_at (v : IVec S10x3072 32) (j : S10x1x3072.Idx) :
    k0_pay5 (F := Ideal) v 5#32 j = (v (ix2 (j 0) (j 2))) % 500000#32 := by
  pointwise [k0_pay5]
  exact HashArith.mod_vocab _ _ rfl _ rfl _ rfl _ rfl _ rfl

end Cert.HashIdeal.Value

end
-- ==== Proof.HashValue.lean ====
module

public import proofs.«01_k».proof.Proof.HashMod
public import proofs.«01_k».proof.Proof.Gen.HashIdeal.Frame
public import proofs.«01_k».proof.Proof.Gen.HashReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HashIdeal.Value
open Cert.HashIdeal Cert.HashIdeal.Gen
open Cert.HashReferenceIdeal.Value (res_main_v3 res_main_v5 res_main_v25 res_main_v36 res_main_v47 res_main_v58 res_main_v69)

variable (V0 : Valuation HashReferenceIdeal.τ HashReferenceIdeal.sig (Elt Ideal))
  (X : Vec Ideal S10x3079 .i32) (S : Vec Ideal S10x3072 .i32)

/-- The symbols as the kernel reads them are the ones the reference joins. -/
abbrev EXT : Prop := X = concatenate HashReferenceIdeal.S10x3079 1
  [⟨HashReferenceIdeal.S10x7, (V0 (Proc.devRef .tc HashReferenceIdeal.main_arg1))⟩,
   ⟨HashReferenceIdeal.S10x3072, (V0 (Proc.devRef .tc HashReferenceIdeal.main_arg0))⟩]
  HashReferenceIdeal.Gen.concatenates_S10x7_S10x3072_S10x3079_d1

/-- The positions in the segment are the reference's. -/
abbrev SEG : Prop := S = V0 (Proc.devRef .tc HashReferenceIdeal.main_arg2)

variable {V0 X S}

theorem symbols (hX : EXT V0 X) : res_main_v3 V0 = fun i => IntOp.addi (X i) 1#32 := by
  rw [hX]; rfl

/-- The sum of the first three terms of the hash, and then with one more term each. -/
theorem sum3 (hX : EXT V0 X) (hS : SEG V0 S) : k0_pay20 (F := Ideal) X S = res_main_v25 V0 := by
  funext j
  subst hS
  pointwise [k0_pay20, k0_pay3, k0_pay2, res_main_v25, res_main_v5, symbols hX]

theorem sum4 (hX : EXT V0 X) (hS : SEG V0 S) : k0_pay21 (F := Ideal) X S = res_main_v36 V0 := by
  unfold k0_pay21
  rw [sum3 hX hS]
  funext j
  subst hS
  pointwise [k0_pay6, k0_pay19, k0_pay2, res_main_v36, res_main_v5, symbols hX]

theorem sum5 (hX : EXT V0 X) (hS : SEG V0 S) : k0_pay22 (F := Ideal) X S = res_main_v47 V0 := by
  unfold k0_pay22
  rw [sum4 hX hS]
  funext j
  subst hS
  pointwise [k0_pay9, k0_pay19, k0_pay2, res_main_v47, res_main_v5, symbols hX]

theorem sum6 (hX : EXT V0 X) (hS : SEG V0 S) : k0_pay23 (F := Ideal) X S = res_main_v58 V0 := by
  unfold k0_pay23
  rw [sum5 hX hS]
  funext j
  subst hS
  pointwise [k0_pay12, k0_pay19, k0_pay2, res_main_v58, res_main_v5, symbols hX]

theorem sum7 (hX : EXT V0 X) (hS : SEG V0 S) :
    k0_pay15 (F := Ideal) (k0_pay19 X S) (k0_pay23 X S) (View.ld X r0_11) = res_main_v69 V0 := by
  rw [sum6 hX hS]
  funext j
  subst hS
  pointwise [k0_pay15, k0_pay19, k0_pay2, res_main_v69, res_main_v5, symbols hX]

/-- One of the reference's six results, as it spells the remainder of `H` by `C`. -/
def refMod (Q : IVec S10x3072 32) (C : IVec HashReferenceIdeal.S_ 32) : IVec HashReferenceIdeal.S10x3072x1 32 :=
  broadcastInDim HashReferenceIdeal.S10x3072x1 ![0, 1] HashReferenceIdeal.Gen.bcast_S10x3072_S10x3072x1_0_1
    (id (select (andi (cmpi .ne (cmpi .ult Q (broadcastInDim HashReferenceIdeal.S10x3072 ![] HashReferenceIdeal.Gen.bcast_S_S10x3072 (constantI HashReferenceIdeal.S_ 32 0#32)))
        (broadcastInDim HashReferenceIdeal.S10x3072 ![] HashReferenceIdeal.Gen.bcast_S_S10x3072 (cmpi .ult C (constantI HashReferenceIdeal.S_ 32 0#32))))
      (cmpi .ne Q (broadcastInDim HashReferenceIdeal.S10x3072 ![] HashReferenceIdeal.Gen.bcast_S_S10x3072 (constantI HashReferenceIdeal.S_ 32 0#32))))
      (addi Q (broadcastInDim HashReferenceIdeal.S10x3072 ![] HashReferenceIdeal.Gen.bcast_S_S10x3072 C)) Q))

theorem refMod_at (H : IVec S10x3072 32) (Q : IVec S10x3072 32) (C : IVec HashReferenceIdeal.S_ 32) (hC : ∀ i, C i = 500000#32)
    (hQ : Q = Host.remui H (broadcastInDim HashReferenceIdeal.S10x3072 ![] HashReferenceIdeal.Gen.bcast_S_S10x3072 C)) (j : HashReferenceIdeal.S10x3072x1.Idx) :
    refMod Q C j = H (ix2 (j 0) (j 1)) % 500000#32 := by
  subst hQ
  obtain rfl : C = fun _ => 500000#32 := funext hC
  unfold refMod
  rw [id_eq]
  pointwise
  exact HashArith.rem_vocab _ _ rfl

/-- The reference's result: the six remainders side by side. -/
abbrev REF (V0 : Valuation HashReferenceIdeal.τ HashReferenceIdeal.sig (Elt Ideal)) : IVec HashReferenceIdeal.S10x3072x6 32 :=
  concatenate HashReferenceIdeal.S10x3072x6 2
    [⟨HashReferenceIdeal.S10x3072x1, refMod (HashReferenceIdeal.Value.res_main_call3_v3 V0) (HashReferenceIdeal.Value.res_main_call3_v1 V0)⟩,
     ⟨HashReferenceIdeal.S10x3072x1, refMod (HashReferenceIdeal.Value.res_main_call5_v3 V0) (HashReferenceIdeal.Value.res_main_call5_v1 V0)⟩,
     ⟨HashReferenceIdeal.S10x3072x1, refMod (HashReferenceIdeal.Value.res_main_call7_v3 V0) (HashReferenceIdeal.Value.res_main_call7_v1 V0)⟩,
     ⟨HashReferenceIdeal.S10x3072x1, refMod (HashReferenceIdeal.Value.res_main_call9_v3 V0) (HashReferenceIdeal.Value.res_main_call9_v1 V0)⟩,
     ⟨HashReferenceIdeal.S10x3072x1, refMod (HashReferenceIdeal.Value.res_main_call11_v3 V0) (HashReferenceIdeal.Value.res_main_call11_v1 V0)⟩,
     ⟨HashReferenceIdeal.S10x3072x1, refMod (HashReferenceIdeal.Value.res_main_call13_v3 V0) (HashReferenceIdeal.Value.res_main_call13_v1 V0)⟩]
    HashReferenceIdeal.Gen.concatenates_S10x3072x1_S10x3072x1_S10x3072x1_S10x3072x1_S10x3072x1_S10x3072x1_S10x3072x6_d2

/-- One of the reference's results with its last two axes exchanged. -/
def TR (p : IVec HashReferenceIdeal.S10x3072x1 32) : IVec S10x1x3072 32 := fun j => p (ix3 (j 0) (j 2) (j 1))

/-- A stored piece of the kernel is the reference's remainder of the same word, at every index. -/
theorem piece {v H : IVec S10x3072 32} (hv : v = H) (Q : IVec S10x3072 32) (C : IVec HashReferenceIdeal.S_ 32)
    (hC : ∀ i, C i = 500000#32)
    (hQ : Q = Host.remui H (broadcastInDim HashReferenceIdeal.S10x3072 ![] HashReferenceIdeal.Gen.bcast_S_S10x3072 C)) :
    k0_pay5 (F := Ideal) v 5#32 = TR (refMod Q C) := by
  funext j
  unfold TR
  rw [pay5_at, refMod_at H Q C hC hQ, hv]
  rfl

theorem piece3 (hX : EXT V0 X) (hS : SEG V0 S) :
    k0_pay5 (F := Ideal) (k0_pay4 (View.ld S r0_0) (View.ld X r0_1) (View.ld X r0_2) (View.ld X r0_3)) 5#32
      = TR (refMod (HashReferenceIdeal.Value.res_main_call3_v3 V0) (HashReferenceIdeal.Value.res_main_call3_v1 V0)) :=
  piece (by rw [← sum3 hX hS]; rfl) _ _ (fun _ => rfl) rfl

theorem piece4 (hX : EXT V0 X) (hS : SEG V0 S) :
    k0_pay8 (F := Ideal) (k0_pay7 (k0_pay19 X S) (k0_pay20 X S) (View.ld X r0_5)) 5#32
      = TR (refMod (HashReferenceIdeal.Value.res_main_call5_v3 V0) (HashReferenceIdeal.Value.res_main_call5_v1 V0)) :=
  piece (by rw [← sum4 hX hS]; rfl) _ _ (fun _ => rfl) rfl

theorem piece5 (hX : EXT V0 X) (hS : SEG V0 S) :
    k0_pay11 (F := Ideal) (k0_pay10 (k0_pay19 X S) (k0_pay21 X S) (View.ld X r0_7)) 5#32
      = TR (refMod (HashReferenceIdeal.Value.res_main_call7_v3 V0) (HashReferenceIdeal.Value.res_main_call7_v1 V0)) :=
  piece (by rw [← sum5 hX hS]; rfl) _ _ (fun _ => rfl) rfl

theorem piece6 (hX : EXT V0 X) (hS : SEG V0 S) :
    k0_pay14 (F := Ideal) (k0_pay13 (k0_pay19 X S) (k0_pay22 X S) (View.ld X r0_9)) 5#32
      = TR (refMod (HashReferenceIdeal.Value.res_main_call9_v3 V0) (HashReferenceIdeal.Value.res_main_call9_v1 V0)) :=
  piece (by rw [← sum6 hX hS]; rfl) _ _ (fun _ => rfl) rfl

theorem piece7 (hX : EXT V0 X) (hS : SEG V0 S) :
    k0_pay17 (F := Ideal) (k0_pay16 (k0_pay19 X S) (k0_pay23 X S) (View.ld X r0_11)) 5#32
      = TR (refMod (HashReferenceIdeal.Value.res_main_call11_v3 V0) (HashReferenceIdeal.Value.res_main_call11_v1 V0)) :=
  piece (by rw [← sum7 hX hS]; rfl) _ _ (fun _ => rfl) rfl

theorem piece8 (hX : EXT V0 X) (hS : SEG V0 S) :
    k0_pay1 (F := Ideal) (k0_pay18 (k0_pay19 X S) (k0_pay15 (k0_pay19 X S) (k0_pay23 X S) (View.ld X r0_11)) (View.ld X r0_13)) 5#32
      = TR (refMod (HashReferenceIdeal.Value.res_main_call13_v3 V0) (HashReferenceIdeal.Value.res_main_call13_v1 V0)) := by
  refine piece ?_ _ _ (fun _ => rfl) rfl
  rw [sum7 hX hS]
  funext j
  subst hS
  pointwise [k0_pay18, k0_pay19, k0_pay2, res_main_v5, symbols hX]

/-- What the kernel's six stores leave is the reference's result, its last two axes exchanged. -/
theorem stores (hX : EXT V0 X) (hS : SEG V0 S) (y : S10x6x3072.Idx) : out0_2 (F := Ideal) X S y = REF V0 (ix3 (y 0) (y 2) (y 1)) := by
  unfold out0_2 REF
  rw [piece3 hX hS, piece4 hX hS, piece5 hX hS, piece6 hX hS, piece7 hX hS, piece8 hX hS]
  generalize refMod (HashReferenceIdeal.Value.res_main_call3_v3 V0) (HashReferenceIdeal.Value.res_main_call3_v1 V0) = p0
  generalize refMod (HashReferenceIdeal.Value.res_main_call5_v3 V0) (HashReferenceIdeal.Value.res_main_call5_v1 V0) = p1
  generalize refMod (HashReferenceIdeal.Value.res_main_call7_v3 V0) (HashReferenceIdeal.Value.res_main_call7_v1 V0) = p2
  generalize refMod (HashReferenceIdeal.Value.res_main_call9_v3 V0) (HashReferenceIdeal.Value.res_main_call9_v1 V0) = p3
  generalize refMod (HashReferenceIdeal.Value.res_main_call11_v3 V0) (HashReferenceIdeal.Value.res_main_call11_v1 V0) = p4
  generalize refMod (HashReferenceIdeal.Value.res_main_call13_v3 V0) (HashReferenceIdeal.Value.res_main_call13_v1 V0) = p5
  canon_tiles x h
  all_goals
    unfold TR
    pointwise
    repeat rw [dif_neg (by omega)]
    try rw [dif_pos (by omega)]
    congr 1
    funext a
    fin_cases a
    all_goals
      apply Fin.ext
      simp <;> omega

end Cert.HashIdeal.Value

end
-- ==== Proof.HashRun.lean ====
module

public import proofs.«01_k».proof.Proof.Gen.HashIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HashIdeal.Value
open Cert.HashIdeal Cert.HashIdeal.Gen

variable {F : FTy → Type} [FloatOps F]
variable (m : (ℓ : Loc nD τ sig) → Buf (Elt F) ℓ) (ρ : Dev nD → PrngReg)

/-- The kernel's windows read three arrays. -/
theorem arr_inj : Function.Injective (Pipeline.arrRef spec0) := by decide

/-- The operation after the kernel transposes the array that the kernel leaves. -/
theorem tail_v2 (c : Dev nD) :
    Pipeline.afterTail₀ cfgs (dats m) 0 (V0 m) [hostOps1] c main_v2
      = transpose S10x3072x6 [0, 2, 1] ((dats m 0 c).arrAt 2 cfg0.N) transposes_S10x6x3072_S10x3072x6_0_2_1 := by
  unfold Pipeline.afterTail₀
  simp only [hostOps1, List.flatten_cons, List.flatten_nil, List.append_nil]
  after_results
  exact congrArg (transpose S10x3072x6 [0, 2, 1] · transposes_S10x6x3072_S10x3072x6_0_2_1)
    (Pipeline.withArrays_arr spec0 arr_inj c (V0 m c) (fun w => (dats m 0 c).arrAt w cfg0.N) 2)

/-- The run: the result is the transposed array, the arguments are unchanged. -/
theorem run_blocks : θ_run defs (onTc (τ := τ) (main (F := F))) ⟨m, fun _ => 0, ρ⟩ fun r => ∀ c : Dev nD,
      r.2.mem ((c : Thread nD τ).loc main_v2)
        = transpose S10x3072x6 [0, 2, 1] ((dats m 0 c).arrAt 2 cfg0.N) transposes_S10x6x3072_S10x3072x6_0_2_1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v2 (Pipeline.mem_restRefs_of main_v2 (by decide) (by decide))).trans (tail_v2 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.HashIdeal.Value

end
-- ==== Proof.HashFinal.lean ====
module

public import proofs.«01_k».proof.Proof.HashValue
public import proofs.«01_k».proof.Proof.HashRun

@[expose] public section

set_option maxRecDepth 16384

noncomputable section

open Idealize.ShloMosaic Idealize.ShloMosaic.TcCoe Idealize.SL.Sem
open Idealize.ShloMosaic.Pipeline (Dat)

namespace Cert.HashIdeal.Value
open Cert.HashIdeal Cert.HashIdeal.Gen

variable (m : (ℓ : Loc nD τ sig) → Buf (Elt Ideal) ℓ)
variable {V0 : Valuation HashReferenceIdeal.τ HashReferenceIdeal.sig (Elt Ideal)}

/-- The one grid point's blocks start at zero. -/
theorem idx : ∀ t : Fin cfg0.N, win0_0.index t = ![0, 0] ∧ win0_1.index t = ![0, 0] ∧ win0_2.index t = ![0, 0, 0] :=
  (by decide +kernel : ∀ t : Fin grid0.N, _)

/-- The one grid point's blocks are the whole arrays. -/
theorem iblk0 (c : Dev nD) (t : Fin cfg0.N) : iblk m c 0 t = V m c main_v0 := by
  blk_ext! [iblk, idx t]

theorem iblk1 (c : Dev nD) (t : Fin cfg0.N) : iblk m c 1 t = V m c main_arg2 := by
  blk_ext! [iblk, idx t]

/-- The result array at the end of the kernel is the reference's with its last two axes exchanged, over the symbols and positions it reads. -/
theorem final (c : Dev nD) (hX : EXT V0 (V m c main_v0)) (hS : SEG V0 (V m c main_arg2)) :
    (dats m 0 c).arrAt 2 cfg0.N = fun y : S10x6x3072.Idx => REF V0 (ix3 (y 0) (y 2) (y 1)) := by
  refine (dats m 0 c).arrAt_eq_of_after_last 2 t0_0 (by decide +kernel) _ fun j => ?_
  blk_simp
  rw [after0_2, iblk0, iblk1]
  exact stores hX hS _

/-- So the transposed array is the reference's result. -/
theorem final_transposed (c : Dev nD) (hX : EXT V0 (V m c main_v0)) (hS : SEG V0 (V m c main_arg2)) :
    transpose S10x3072x6 [0, 2, 1] ((dats m 0 c).arrAt 2 cfg0.N) transposes_S10x6x3072_S10x3072x6_0_2_1 = REF V0 := by
  rw [final m c hX hS]
  funext y
  refine Eq.trans ?_ (congrArg (REF V0) (ix3_eta (y : S10x3072x6.Idx)))
  generalize REF V0 = R
  pointwise

/-- The symbols the kernel reads are its two arguments side by side. -/
theorem ext_eq (c : Dev nD)
    (h0 : V0 (Proc.devRef .tc HashReferenceIdeal.main_arg0) = m ((c : Thread nD τ).loc main_arg0))
    (h1 : V0 (Proc.devRef .tc HashReferenceIdeal.main_arg1) = m ((c : Thread nD τ).loc main_arg1)) :
    EXT V0 (V m c main_v0) := by
  unfold EXT
  rw [h0, h1]
  entry_read
  rfl

theorem seg_eq (c : Dev nD)
    (h2 : V0 (Proc.devRef .tc HashReferenceIdeal.main_arg2) = m ((c : Thread nD τ).loc main_arg2)) :
    SEG V0 (V m c main_arg2) := by
  unfold SEG
  rw [h2]
  rfl

end Cert.HashIdeal.Value

end
-- ==== Proof.CombineWords.lean ====
module

public import proofs.«01_k».proof.Proof.Gen.CombineIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.CombineIdeal.Value
open Cert.CombineIdeal Cert.CombineIdeal.Gen

/-- The words of one block as the transposes leave them: word `m` of the codes of lane `l` is in line `m / 128` of
    that lane's nine lines, at `m % 128`. -/
def WORDS (x0 : Vec Ideal S1x6x1152x128 .i32) : Vec Ideal S6x1152x128 .i32 := fun y =>
  x0 (ix4 0 (y 0) ⟨(y 1 : ℕ) / 128 + 9 * (y 2 : ℕ), by have := (y 1).isLt; have := (y 2).isLt; simp at *; omega⟩
    ⟨(y 1 : ℕ) % 128, by omega⟩)

/-- One store of the transposes: 128 lines, nine apart, turned into columns. -/
def TURN (v : Vec Ideal S1x1x128x128 .i32) : Vec Ideal S1x128x128 .i32 :=
  shapeCast S1x128x128 (transpose S128x128 [1, 0] (shapeCast S128x128 v shapeCasts_S1x1x128x128_S128x128) transposes_S128x128_p1_0_S128x128) shapeCasts_S128x128_S1x128x128

theorem turn_at {arg2 : Memref sig .tc .vmem S1x6x1152x128 .i32} {harg2 : arg2.IsWhole} {x0 : Vec Ideal S1x6x1152x128 .i32}
    {n r m : ℕ} {i1 i2} (hm : m = r * 128) (x : S1x128x128.Idx) :
    TURN (View.readAt (Elt Ideal) arg2.view { off := ![0, n, r, 0], size := S1x1x128x128.size, stride := ![1, 1, 9, 1], inb := i1 } (harg2.unread x0)) x
      = WORDS x0 ((Rect.unit (s := S6x1152x128) ![n, m, 0] S1x128x128.size i2).emb x) := by
  pointwise [TURN, WORDS]
  rw [View.readAt_apply, harg2.read_unread]
  have h1 : (x 1 : ℕ) < 128 := (x 1).isLt
  have e1 : (((Rect.unit (s := S6x1152x128) ![n, m, 0] S1x128x128.size i2).emb x 1 : Fin _) : ℕ) = m + 1 * (x 1 : ℕ) := rfl
  have e2 : (((Rect.unit (s := S6x1152x128) ![n, m, 0] S1x128x128.size i2).emb x 2 : Fin _) : ℕ) = 0 + 1 * (x 2 : ℕ) := rfl
  congr 1
  funext a
  apply Fin.ext
  fin_cases a
  · rfl
  · show n + 1 * 0 = n + 1 * (x 0 : ℕ)
    have : (x 0 : ℕ) < 1 := (x 0).isLt
    omega
  · show r + 9 * (x 2 : ℕ) = (m + 1 * (x 1 : ℕ)) / 128 + 9 * (0 + 1 * (x 2 : ℕ))
    omega
  · show 0 + 1 * (x 1 : ℕ) = (m + 1 * (x 1 : ℕ)) % 128
    omega

/-- One more piece of a block. -/
theorem pieces_cons {S : Shape} {e : EltTy} {G : S.Idx → Elt Ideal e} {r : Rect S} {w : r.shape.Idx → Elt Ideal e}
    {L : List (View.Piece (Elt Ideal) S e)} (h : ∀ x, w x = G (r.emb x)) (hL : View.PiecesOf G L) :
    View.PiecesOf G (⟨r, w⟩ :: L) := ⟨h, hL⟩

theorem pieces_nil {S : Shape} {e : EltTy} {G : S.Idx → Elt Ideal e} :
    View.PiecesOf G ([] : List (View.Piece (Elt Ideal) S e)) := trivial

theorem words_B (c : Dev nD) (arg2 : Memref sig .tc .vmem S1x6x1152x128 .i32) (harg2 : arg2.IsWhole) (x0 : Vec Ideal S1x6x1152x128 .i32) :
    View.PiecesOf (WORDS x0) (kernelRun0_B.sl.HS1_54 c arg2 harg2 x0) := by
  unfold kernelRun0_B.sl.HS1_54
  repeat refine pieces_cons (fun x => turn_at (harg2 := harg2) (x0 := x0) rfl x) ?_
  exact pieces_nil

end Cert.CombineIdeal.Value

end
-- ==== Proof.CombinePiece.lean ====
module

public import proofs.«01_k».proof.Proof.CombineWords
public import Idealize.ShloMosaic.Lib.BitcastPair

@[expose] public section

set_option maxRecDepth 16384

noncomputable section

open Idealize.ShloMosaic Idealize.ShloMosaic.TcCoe Idealize.SL.Sem
open Idealize.ShloMosaic.Pipeline (Dat)

namespace Cert.CombineIdeal.Value
open Cert.CombineIdeal Cert.CombineIdeal.Gen

/-- Code `p` of the four that a word carries, as a number. -/
def CODE (w : BitVec 32) (p : ℕ) : EReal :=
  FloatOps.sitofp (F := Ideal) FTy.f32 (BitVec.signExtend 32 (BitVec.extractLsb' (p * 8) 8 w))

theorem code_eq (w : BitVec 8) :
    FloatOps.sitofp (F := Ideal) FTy.f32 w = FloatOps.sitofp (F := Ideal) FTy.f32 (BitVec.signExtend 32 w) := by
  show ((w.toInt : ℝ) : EReal) = (((BitVec.signExtend 32 w).toInt : ℝ) : EReal)
  rw [BitVec.toInt_signExtend_of_le (by decide)]

/-- Eight words seen as thirty-two rows of codes: row `r` is code `r % 4` of word `r / 4`. -/
theorem codes_at (X : S8x128.Idx → BitVec 32) (x : S32x128.Idx) :
    bitcast S32x128 8 X bitcasts_S8x128_w32_S32x128_w8 x
      = BitVec.extractLsb' ((x 0 : ℕ) % 4 * 8) 8 (X (ix2 ⟨(x 0 : ℕ) / 4, by have := (x 0).isLt; simp at *; omega⟩ (x 1))) := by
  apply BitVec.eq_of_getLsbD_eq
  intro q hq
  rw [bitcast_getLsbD _ _ _ q hq (by decide), BitVec.getLsbD_extractLsb']
  have hr : S32x128.row x = (x 0 : ℕ) := rfl
  simp only [hr]
  have e2 : ((x 0 : ℕ) * 8 + q) % 32 = (x 0 : ℕ) % 4 * 8 + q := by omega
  rw [e2, decide_eq_true hq, Bool.true_and]
  congr 2
  funext a
  apply Fin.ext
  fin_cases a
  · show ((x 0 : ℕ) * 8 + q) / 32 = (x 0 : ℕ) / 4
    omega
  · rfl

/-- One n-gram's term of a piece: its codes times its scales. -/
def FN (X : Vec Ideal S1x8x128 .i32) (S : Vec Ideal S1x1x128 .f32) : FVec Ideal S32x128 .f32 :=
  mulf (sitofp .f32 (bitcast S32x128 8 (shapeCast S8x128 X shapeCasts_S1x8x128_S8x128) bitcasts_S8x128_w32_S32x128_w8))
    (broadcastTo S32x128 (shapeCast S1x128 S shapeCasts_S1x1x128_S1x128) broadcasts_S1x128_S32x128)

theorem FN_at (X : Vec Ideal S1x8x128 .i32) (S : Vec Ideal S1x1x128 .f32) (x : S32x128.Idx) :
    FN X S x = CODE (X (ix3 0 ⟨(x 0 : ℕ) / 4, by have := (x 0).isLt; simp at *; omega⟩ (x 1))) ((x 0 : ℕ) % 4) * S (ix3 0 0 (x 1)) := by
  pointwise [FN]
  rw [codes_at, code_eq]
  unfold CODE
  congr 4
  pointwise

/-- One piece of the result: the bytes' rows plus the six terms, added first to last. -/
def PIECE (X0 X1 X2 X3 X4 X5 : Vec Ideal S1x8x128 .i32) (S0 S1 S2 S3 S4 S5 : Vec Ideal S1x1x128 .f32) (E : FVec Ideal S32x128 .f32) :
    FVec Ideal S1x32x128 .bf16 :=
  shapeCast S1x32x128 (truncf .bf16 (addf E (addf (addf (addf (addf (addf (FN X0 S0) (FN X1 S1)) (FN X2 S2)) (FN X3 S3)) (FN X4 S4)) (FN X5 S5))) bitsLt_bf16_f32) shapeCasts_S32x128_S1x32x128

theorem PIECE_at (X0 X1 X2 X3 X4 X5 : Vec Ideal S1x8x128 .i32) (S0 S1 S2 S3 S4 S5 : Vec Ideal S1x1x128 .f32) (E : FVec Ideal S32x128 .f32)
    (x : S1x32x128.Idx) (z : S32x128.Idx) (hz : z = ix2 (x 1) (x 2)) :
    PIECE X0 X1 X2 X3 X4 X5 S0 S1 S2 S3 S4 S5 E x
      = E z + (FN X0 S0 z + FN X1 S1 z + FN X2 S2 z + FN X3 S3 z + FN X4 S4 z + FN X5 S5 z) := by
  subst hz
  pointwise [PIECE]

/-- What a block's element is: the byte's row of the table and the six terms. -/
def OUT (W : Vec Ideal S6x1152x128 .i32) (x1 : Vec Ideal S1x6x1024 .f32) (BT : S1x576x1024.Idx → EReal) (y : S1x576x1024.Idx) : EReal :=
  let t : Fin 6 → EReal := fun n =>
    CODE (W (ix3 n ⟨(y 2 : ℕ) / 128 * 144 + (y 1 : ℕ) / 4, by have := (y 1).isLt; have := (y 2).isLt; simp at *; omega⟩
      ⟨(y 2 : ℕ) % 128, by omega⟩)) ((y 1 : ℕ) % 4) * x1 (ix3 0 n (y 2))
  BT y + (t 0 + t 1 + t 2 + t 3 + t 4 + t 5)

theorem term_at {arg3 : Memref sig .tc .vmem S1x6x1024 .f32} {harg3 : arg3.IsWhole} {x1 : Vec Ideal S1x6x1024 .f32}
    {arg8 : Memref sig .tc .vmem S6x1152x128 .i32} {L1 : List (View.Piece (Elt Ideal) S6x1152x128 .i32)} {W : Vec Ideal S6x1152x128 .i32}
    (h1 : View.canon L1 = W) {n g l r : ℕ} (n' : Fin 6) (hn : n = n') {a : ℕ} (hl : l = a * 128) {k : ℕ} (hr : r = k * 32) (hg : g = a * 144 + k * 8) {i1 i2 i3}
    (x : S1x32x128.Idx) (y : S1x576x1024.Idx) (hy : y = (Rect.unit (s := S1x576x1024) ![0, r, l] S1x32x128.size i3).emb x)
    (z : S32x128.Idx) (hz : z = ix2 (x 1) (x 2)) :
    FN (arg8.view.readCov L1 (Rect.unit (s := S6x1152x128) ![n, g, 0] S1x8x128.size i1).toLoadRect)
        (View.readAt (Elt Ideal) arg3.view (Rect.unit (s := S1x6x1024) ![0, n, l] S1x1x128.size i2).toLoadRect (harg3.unread x1)) z
      = CODE (W (ix3 n' ⟨(y 2 : ℕ) / 128 * 144 + (y 1 : ℕ) / 4, by have := (y 1).isLt; have := (y 2).isLt; simp at *; omega⟩
      ⟨(y 2 : ℕ) % 128, by omega⟩)) ((y 1 : ℕ) % 4) * x1 (ix3 0 n' (y 2)) := by
  rw [FN_at, View.readCov_eq_canon', h1, View.readAt_apply, harg3.read_unread]
  beta_reduce
  have e1 : (y 1 : ℕ) = r + 1 * (x 1 : ℕ) := by rw [hy]; rfl
  have e2 : (y 2 : ℕ) = l + 1 * (x 2 : ℕ) := by rw [hy]; rfl
  have z0 : (z 0 : ℕ) = (x 1 : ℕ) := by rw [hz]; rfl
  have z1 : (z 1 : ℕ) = (x 2 : ℕ) := by rw [hz]; rfl
  have b1 : (x 1 : ℕ) < 32 := (x 1).isLt
  have b2 : (x 2 : ℕ) < 128 := (x 2).isLt
  congr 1
  · congr 1
    · congr 1
      funext b
      apply Fin.ext
      fin_cases b
      · show n + 1 * 0 = (n' : ℕ)
        omega
      · show g + 1 * ((z 0 : ℕ) / 4) = (y 2 : ℕ) / 128 * 144 + (y 1 : ℕ) / 4
        omega
      · show 0 + 1 * (z 1 : ℕ) = (y 2 : ℕ) % 128
        omega
    · omega
  · congr 1
    funext b
    apply Fin.ext
    fin_cases b
    · rfl
    · show n + 1 * 0 = (n' : ℕ)
      omega
    · show l + 1 * (z 1 : ℕ) = (y 2 : ℕ)
      omega

theorem piece_at {arg3 : Memref sig .tc .vmem S1x6x1024 .f32} {harg3 : arg3.IsWhole} {x1 : Vec Ideal S1x6x1024 .f32}
    {arg8 : Memref sig .tc .vmem S6x1152x128 .i32} {L1 : List (View.Piece (Elt Ideal) S6x1152x128 .i32)} {W : Vec Ideal S6x1152x128 .i32}
    {arg9 : Memref sig .tc .vmem S576x256 .f32} {L2 : List (View.Piece (Elt Ideal) S576x256 .f32)} {BT : S1x576x1024.Idx → EReal}
    (h1 : View.canon L1 = W) {q : ℕ}
    (h2 : ∀ (j : S576x256.Idx) (y : S1x576x1024.Idx), (y 1 : ℕ) = (j 0 : ℕ) → (y 2 : ℕ) = q * 256 + (j 1 : ℕ) → View.canon L2 j = BT y)
    {g l r h i0 i1 i2 i3 i4 i5 s0 s1 s2 s3 s4 s5 ie io}
    (hg : g = l / 128 * 144 + r / 32 * 8) (hl : l = l / 128 * 128) (hr : r = r / 32 * 32) (hh : l = q * 256 + h)
    (x : S1x32x128.Idx) :
    PIECE (arg8.view.readCov L1 (Rect.unit (s := S6x1152x128) ![0, g, 0] S1x8x128.size i0).toLoadRect)
        (arg8.view.readCov L1 (Rect.unit (s := S6x1152x128) ![1, g, 0] S1x8x128.size i1).toLoadRect)
        (arg8.view.readCov L1 (Rect.unit (s := S6x1152x128) ![2, g, 0] S1x8x128.size i2).toLoadRect)
        (arg8.view.readCov L1 (Rect.unit (s := S6x1152x128) ![3, g, 0] S1x8x128.size i3).toLoadRect)
        (arg8.view.readCov L1 (Rect.unit (s := S6x1152x128) ![4, g, 0] S1x8x128.size i4).toLoadRect)
        (arg8.view.readCov L1 (Rect.unit (s := S6x1152x128) ![5, g, 0] S1x8x128.size i5).toLoadRect)
        (View.readAt (Elt Ideal) arg3.view (Rect.unit (s := S1x6x1024) ![0, 0, l] S1x1x128.size s0).toLoadRect (harg3.unread x1))
        (View.readAt (Elt Ideal) arg3.view (Rect.unit (s := S1x6x1024) ![0, 1, l] S1x1x128.size s1).toLoadRect (harg3.unread x1))
        (View.readAt (Elt Ideal) arg3.view (Rect.unit (s := S1x6x1024) ![0, 2, l] S1x1x128.size s2).toLoadRect (harg3.unread x1))
        (View.readAt (Elt Ideal) arg3.view (Rect.unit (s := S1x6x1024) ![0, 3, l] S1x1x128.size s3).toLoadRect (harg3.unread x1))
        (View.readAt (Elt Ideal) arg3.view (Rect.unit (s := S1x6x1024) ![0, 4, l] S1x1x128.size s4).toLoadRect (harg3.unread x1))
        (View.readAt (Elt Ideal) arg3.view (Rect.unit (s := S1x6x1024) ![0, 5, l] S1x1x128.size s5).toLoadRect (harg3.unread x1))
        (arg9.view.readCov L2 (Rect.unit (s := S576x256) ![r, h] S32x128.size ie).toLoadRect) x
      = OUT W x1 BT ((Rect.unit (s := S1x576x1024) ![0, r, l] S1x32x128.size io).emb x) := by
  obtain ⟨z, hz⟩ : ∃ z : S32x128.Idx, z = ix2 (x 1) (x 2) := ⟨_, rfl⟩
  obtain ⟨y, hy⟩ : ∃ y : S1x576x1024.Idx, y = (Rect.unit (s := S1x576x1024) ![0, r, l] S1x32x128.size io).emb x := ⟨_, rfl⟩
  rw [PIECE_at _ _ _ _ _ _ _ _ _ _ _ _ _ x z hz, ← hy]
  rw [term_at (n := 0) h1 0 rfl hl hr hg x y hy z hz, term_at (n := 1) h1 1 rfl hl hr hg x y hy z hz, term_at (n := 2) h1 2 rfl hl hr hg x y hy z hz,
    term_at (n := 3) h1 3 rfl hl hr hg x y hy z hz, term_at (n := 4) h1 4 rfl hl hr hg x y hy z hz, term_at (n := 5) h1 5 rfl hl hr hg x y hy z hz,
    View.readCov_eq_canon']
  beta_reduce
  rw [h2 _ y (by rw [hy, hz]; rfl) (by rw [hy, hz]; show l + 1 * (x 2 : ℕ) = q * 256 + (h + 1 * (x 2 : ℕ)); omega)]
  rfl

end Cert.CombineIdeal.Value

end
-- ==== Proof.CombineBytes.lean ====
module

public import proofs.«01_k».proof.Proof.CombinePiece

@[expose] public section

set_option maxRecDepth 16384

noncomputable section

open Idealize.ShloMosaic Idealize.ShloMosaic.TcCoe Idealize.SL.Sem
open Idealize.ShloMosaic.Pipeline (Dat)

namespace Cert.CombineIdeal.Value
open Cert.CombineIdeal Cert.CombineIdeal.Gen

/-- The table beside the two remainders of its splitting, which are zero when its entries are finite. -/
def SPLIT (T : Vec Ideal S576x256 .f32) : Vec Ideal S576x768 .bf16 := fun y =>
  if h : (y 1 : ℕ) < 256 then T (ix2 (y 0) ⟨(y 1 : ℕ), h⟩) else 0

/-- One column of the comparison with a byte: one in the byte's row, zero elsewhere. -/
theorem hot_at (bl : Vec Ideal S1x256 .i32) (r : Fin 256) (s : Fin 256) :
    k0_pay69 (F := Ideal) bl (ix2 r s) = if (r : ℕ) = (bl (ix2 0 s)).toNat then (1 : EReal) else 0 := by
  have e : k0_pay69 (F := Ideal) bl (ix2 r s)
      = FloatOps.sitofp (F := Ideal) FTy.f32 (BitVec.setWidth 32 (IntOp.cmpi .eq (BitVec.ofNat 32 (r : ℕ)) (bl (ix2 0 s)))) := by
    pointwise [k0_pay69]
  rw [e]
  have hr : (r : ℕ) < 256 := r.isLt
  by_cases h : (r : ℕ) = (bl (ix2 0 s)).toNat
  · have hb : (BitVec.ofNat 32 (r : ℕ) == bl (ix2 0 s)) = true := by
      rw [beq_iff_eq, h, BitVec.ofNat_toNat, BitVec.setWidth_eq]
    rw [if_pos h]
    simp only [IntOp.cmpi, hb]
    show (((BitVec.setWidth 32 (BitVec.ofBool true)).toInt : ℝ) : EReal) = 1
    have : (BitVec.setWidth 32 (BitVec.ofBool true)).toInt = 1 := by decide
    rw [this]; norm_num
  · have hb : (BitVec.ofNat 32 (r : ℕ) == bl (ix2 0 s)) = false := by
      rw [beq_eq_false_iff_ne]
      intro h'
      exact h (by rw [← h', BitVec.toNat_ofNat]; omega)
    rw [if_neg h]
    simp only [IntOp.cmpi, hb]
    show (((BitVec.setWidth 32 (BitVec.ofBool false)).toInt : ℝ) : EReal) = 0
    have : (BitVec.setWidth 32 (BitVec.ofBool false)).toInt = 0 := by decide
    rw [this]; norm_num

/-- The product of the split table with the comparison is the table's column at the byte. -/
theorem bytes_at (bl : Vec Ideal S1x256 .i32) (T : Vec Ideal S576x256 .f32) (d : Fin 576) (s : Fin 256)
    (hb : (bl (ix2 0 s)).toNat < 256) :
    k0_pay70 (F := Ideal) (k0_pay69 (F := Ideal) bl) (SPLIT T) (ix2 d s) = T (ix2 d ⟨(bl (ix2 0 s)).toNat, hb⟩) := by
  pointwise [k0_pay70]
  rw [Finset.sum_eq_single (⟨(bl (ix2 0 s)).toNat, by omega⟩ : Fin 768)]
  · rw [dif_pos hb]
    rw [show k0_pay69 (F := Ideal) bl (ix2 ⟨(bl (ix2 0 s)).toNat, hb⟩ s) = 1 from (hot_at bl _ s).trans (if_pos rfl), mul_one]
    unfold SPLIT
    exact dif_pos hb
  · intro x _ hx
    have hx' : (x : ℕ) ≠ (bl (ix2 0 s)).toNat := fun h => hx (Fin.ext h)
    by_cases h : (x : ℕ) < 256
    · rw [dif_pos h]
      rw [show k0_pay69 (F := Ideal) bl (ix2 ⟨(x : ℕ), h⟩ s) = 0 from (hot_at bl _ s).trans (if_neg hx'), mul_zero]
    · have : SPLIT T (ix2 d x) = 0 := dif_neg h
      rw [this, zero_mul]
  · intro h
    exact absurd (Finset.mem_univ _) h

/-- The row of the table that the byte of element `y` of a block picks. -/
def BYTE (T : Vec Ideal S576x256 .f32) (x2 : Vec Ideal S10x3072 .i32) (b : Fin 10) (q : Fin 3) (y : S1x576x1024.Idx) : EReal :=
  T (ix2 (y 1) ⟨min (x2 (ix2 b ⟨(q : ℕ) * 1024 + (y 2 : ℕ), by have := (y 2).isLt; have := q.isLt; simp at *; omega⟩)).toNat 255, by omega⟩)

theorem byte_canon {arg4 : Memref sig .tc .vmem S10x3072 .i32} {harg4 : arg4.IsWhole} {x2 : Vec Ideal S10x3072 .i32}
    {off : Fin 2 → ℕ} {i4} {SP : Vec Ideal S576x768 .bf16} {T : Vec Ideal S576x256 .f32} {L : List (View.Piece (Elt Ideal) S576x256 .f32)} {i0}
    (hSP : SP = SPLIT T) (hb : ∀ y, (x2 y).toNat < 256) (b : Fin 10) (t : Fin 3) (q : ℕ) (h0 : off 0 = b) (h1 : off 1 = t * 1024 + q * 256)
    (j : S576x256.Idx) (y : S1x576x1024.Idx) (hy1 : (y 1 : ℕ) = (j 0 : ℕ)) (hy2 : (y 2 : ℕ) = q * 256 + (j 1 : ℕ)) :
    View.canon ((⟨Rect.unit (s := S576x256) ![0, 0] S576x256.size i0,
      k0_pay70 (F := Ideal) (k0_pay69 (F := Ideal) (View.readAt (Elt Ideal) arg4.view (Rect.unit (s := S10x3072) off S1x256.size i4).toLoadRect (harg4.unread x2))) SP⟩ :
        View.Piece (Elt Ideal) S576x256 .f32) :: L) j = BYTE T x2 b t y := by
  subst hSP
  rw [View.canon_cons_unit_lit i0 _ L (by decide)]
  have key : (View.readAt (Elt Ideal) arg4.view (Rect.unit (s := S10x3072) off S1x256.size i4).toLoadRect (harg4.unread x2)) (ix2 0 (j 1))
      = x2 (ix2 b ⟨(t : ℕ) * 1024 + (y 2 : ℕ), by have := (y 2).isLt; have := t.isLt; simp at *; omega⟩) := by
    rw [View.readAt_apply, harg4.read_unread]
    congr 1
    funext a
    apply Fin.ext
    fin_cases a
    · show off 0 + 1 * 0 = (b : ℕ)
      omega
    · show off 1 + 1 * (j 1 : ℕ) = (t : ℕ) * 1024 + (y 2 : ℕ)
      omega
  have hj : j = ix2 (j 0) (j 1) := by
    funext a
    fin_cases a <;> rfl
  rw [hj]
  refine (bytes_at _ T (j 0) (j 1) (by rw [key]; exact hb _)).trans ?_
  unfold BYTE
  congr 1
  funext a
  apply Fin.ext
  fin_cases a
  · exact hy1.symm
  · refine (congrArg BitVec.toNat key).trans ?_
    have := hb (ix2 b ⟨(t : ℕ) * 1024 + (y 2 : ℕ), by have := (y 2).isLt; have := t.isLt; simp at *; omega⟩)
    exact (Nat.min_eq_left (by omega)).symm

/-- Where the bytes of a block lie: its batch's row, 1024 columns for each step, 256 for each product. -/
theorem off_at (i : grid0.Coords) (q : Fin 4) :
    k0_off1 i (BitVec.ofNat 32 ((q : ℕ) * 256)) 0 = (i 0 : ℕ) ∧ k0_off1 i (BitVec.ofNat 32 ((q : ℕ) * 256)) 1 = (i 1 : ℕ) * 1024 + (q : ℕ) * 256 := by
  have h0 : (i 0 : ℕ) < 10 := (i 0).isLt
  have h1 : (i 1 : ℕ) < 3 := (i 1).isLt
  unfold k0_off1
  generalize (i 0 : ℕ) = a at *
  generalize (i 1 : ℕ) = b at *
  revert q
  interval_cases a <;> interval_cases b <;> decide

theorem words_A (c : Dev nD) (arg2 : Memref sig .tc .vmem S1x6x1152x128 .i32) (harg2 : arg2.IsWhole) (x0 : Vec Ideal S1x6x1152x128 .i32) :
    View.PiecesOf (WORDS x0) (kernelRun0_A.sl.HS1_54 c arg2 harg2 x0) := by
  unfold kernelRun0_A.sl.HS1_54
  repeat refine pieces_cons (fun x => turn_at (harg2 := harg2) (x0 := x0) rfl x) ?_
  exact pieces_nil

theorem canon_of_pieces {S : Shape} {e : EltTy} {G : S.Idx → Elt Ideal e} {L : List (View.Piece (Elt Ideal) S e)}
    (h : View.PiecesOf G L) (hc : ∀ y, ∃ p ∈ L, y ∈ p.1.set) : View.canon L = G :=
  funext fun y => View.canon_apply_of_pieces G L (fun p hp => h.mem p hp) y (hc y)

theorem canon_words_A (c : Dev nD) (arg2 : Memref sig .tc .vmem S1x6x1152x128 .i32) (harg2 : arg2.IsWhole) (x0 : Vec Ideal S1x6x1152x128 .i32) :
    View.canon (kernelRun0_A.sl.HS1_54 c arg2 harg2 x0) = WORDS x0 :=
  canon_of_pieces (words_A c arg2 harg2 x0) (View.cover_of_tiledL _ S1x128x128.size (by sl_kernel_rfl))

theorem canon_words_B (c : Dev nD) (arg2 : Memref sig .tc .vmem S1x6x1152x128 .i32) (harg2 : arg2.IsWhole) (x0 : Vec Ideal S1x6x1152x128 .i32) :
    View.canon (kernelRun0_B.sl.HS1_54 c arg2 harg2 x0) = WORDS x0 :=
  canon_of_pieces (words_B c arg2 harg2 x0) (View.cover_of_tiledL _ S1x128x128.size (by sl_kernel_rfl))

end Cert.CombineIdeal.Value

end
-- ==== Proof.CombineOut.lean ====
module

public import proofs.«01_k».proof.Proof.CombineBytes

@[expose] public section

set_option maxRecDepth 65536

noncomputable section

open Idealize.ShloMosaic Idealize.ShloMosaic.TcCoe Idealize.SL.Sem
open Idealize.ShloMosaic.Pipeline (Dat)

namespace Cert.CombineIdeal.Value
open Cert.CombineIdeal Cert.CombineIdeal.Gen

theorem table_at {arg5 : Memref sig .tc .vmem S576x256 .f32} {harg5 : arg5.IsWhole} {x3 : Vec Ideal S576x256 .f32} {i5} (j : S576x256.Idx) :
    View.readAt (Elt Ideal) arg5.view (Rect.unit (s := S576x256) ![0, 0] S576x256.size i5).toLoadRect (harg5.unread x3) j = x3 j := by
  rw [View.readAt_apply, harg5.read_unread]
  congr 1
  funext a
  apply Fin.ext
  fin_cases a
  · show 0 + 1 * (j 0 : ℕ) = (j 0 : ℕ)
    omega
  · show 0 + 1 * (j 1 : ℕ) = (j 1 : ℕ)
    omega

theorem part0 (v : Vec Ideal S576x256 .f32) (j : S576x256.Idx) : k0_pay4 (F := Ideal) v j = v j := by
  pointwise [k0_pay4, k0_pay3, k0_pay2]

theorem part1 (v : Vec Ideal S576x256 .f32) (j : S576x256.Idx) (h : v j ≠ ⊤ ∧ v j ≠ ⊥) : k0_pay7 (F := Ideal) v j = 0 := by
  have e : k0_pay7 (F := Ideal) v j = v j - v j := by pointwise [k0_pay7, k0_pay6, k0_pay5, k0_pay3, k0_pay2]
  rw [e]
  exact EReal.sub_self h.1 h.2

theorem part2 (v : Vec Ideal S576x256 .f32) (j : S576x256.Idx) (h : v j ≠ ⊤ ∧ v j ≠ ⊥) : k0_pay8 (F := Ideal) v j = 0 := by
  have e : k0_pay8 (F := Ideal) v j = (v j - v j) - (v j - v j) := by pointwise [k0_pay8, k0_pay6, k0_pay5, k0_pay3, k0_pay2]
  rw [e, EReal.sub_self h.1 h.2]
  exact EReal.sub_self (by simp) (by simp)

/-- What the first step leaves for every later one: the table and two zero remainders. -/
theorem split_A (c : Dev nD) (arg5 : Memref sig .tc .vmem S576x256 .f32) (harg5 : arg5.IsWhole) (x3 : Vec Ideal S576x256 .f32)
    (hf : ∀ y, x3 y ≠ ⊤ ∧ x3 y ≠ ⊥) : View.canon (kernelRun0_A.sl.HS0_3 c arg5 harg5 x3) = SPLIT x3 := by
  refine canon_of_pieces ?_ (View.cover_of_tiledL _ S576x256.size (by sl_kernel_rfl))
  unfold kernelRun0_A.sl.HS0_3
  refine pieces_cons (fun x => ?_) (pieces_cons (fun x => ?_) (pieces_cons (fun x => ?_) pieces_nil))
  · refine (part2 _ x (by rw [table_at]; exact hf x)).trans (Eq.symm (dif_neg ?_))
    show ¬ (512 + 1 * (x 1 : ℕ) < 256)
    omega
  · refine (part1 _ x (by rw [table_at]; exact hf x)).trans (Eq.symm (dif_neg ?_))
    show ¬ (256 + 1 * (x 1 : ℕ) < 256)
    omega
  · refine (part0 _ x).trans ((table_at x).trans ?_)
    have h1 : (x 1 : ℕ) < 256 := (x 1).isLt
    refine Eq.symm ((dif_pos (show 0 + 1 * (x 1 : ℕ) < 256 by omega)).trans ?_)
    congr 1
    funext a
    apply Fin.ext
    fin_cases a
    · show 0 + 1 * (x 0 : ℕ) = (x 0 : ℕ)
      omega
    · show 0 + 1 * (x 1 : ℕ) = (x 1 : ℕ)
      omega

theorem load_split {arg7 : Memref sig .tc .vmem S576x768 .bf16} {L : List (View.Piece (Elt Ideal) S576x768 .bf16)} {S : Vec Ideal S576x768 .bf16} {i7}
    (h : View.canon L = S) : arg7.view.readCov L (Rect.unit (s := S576x768) ![0, 0] S576x768.size i7).toLoadRect = S := by
  rw [View.readCov_eq_canon', h]
  funext j
  beta_reduce
  congr 1
  funext a
  apply Fin.ext
  fin_cases a
  · show 0 + 1 * (j 0 : ℕ) = (j 0 : ℕ)
    omega
  · show 0 + 1 * (j 1 : ℕ) = (j 1 : ℕ)
    omega

theorem read_split {arg7 : Memref sig .tc .vmem S576x768 .bf16} {harg7 : arg7.IsWhole} {S : Vec Ideal S576x768 .bf16} {i7} :
    View.readAt (Elt Ideal) arg7.view (Rect.unit (s := S576x768) ![0, 0] S576x768.size i7).toLoadRect (harg7.unread S) = S := by
  funext j
  rw [View.readAt_apply, harg7.read_unread]
  congr 1
  funext a
  apply Fin.ext
  fin_cases a
  · show 0 + 1 * (j 0 : ℕ) = (j 0 : ℕ)
    omega
  · show 0 + 1 * (j 1 : ℕ) = (j 1 : ℕ)
    omega

attribute [local irreducible] bitcast

set_option maxHeartbeats 4000000 in
/-- Every piece that a later step stores is its part of `OUT`. -/
theorem out_B (c : Dev nD) (i : grid0.Coords)
    (arg2 : Memref sig .tc .vmem S1x6x1152x128 .i32) (harg2 : arg2.IsWhole) (arg3 : Memref sig .tc .vmem S1x6x1024 .f32) (harg3 : arg3.IsWhole)
    (arg4 : Memref sig .tc .vmem S10x3072 .i32) (harg4 : arg4.IsWhole) (arg5 : Memref sig .tc .vmem S576x256 .f32) (harg5 : arg5.IsWhole)
    (arg6 : Memref sig .tc .vmem S1x576x1024 .bf16) (harg6 : arg6.IsWhole) (arg7 : Memref sig .tc .vmem S576x768 .bf16) (harg7 : arg7.IsWhole)
    (arg8 : Memref sig .tc .vmem S6x1152x128 .i32) (harg8 : arg8.IsWhole) (arg9 : Memref sig .tc .vmem S576x256 .f32) (harg9 : arg9.IsWhole)
    (hc0) (x0 : Vec Ideal S1x6x1152x128 .i32) (x1 : Vec Ideal S1x6x1024 .f32) (x2 : Vec Ideal S10x3072 .i32) (x3 : Vec Ideal S576x256 .f32)
    (T : Vec Ideal S576x256 .f32) (hb : ∀ y, (x2 y).toNat < 256) :
    View.PiecesOf (OUT (WORDS x0) x1 (BYTE T x2 (i 0) (i 1)))
      (kernelRun0_B (F := Ideal) c i arg2 harg2 arg3 harg3 arg4 harg4 arg5 harg5 arg6 harg6 arg7 harg7 arg8 harg8 arg9 harg9 hc0 x0 x1 x2 x3 (SPLIT T)).1 := by
  have hW := canon_words_B c arg2 harg2 x0
  have hE0 : ∀ (j : S576x256.Idx) (y : S1x576x1024.Idx), (y 1 : ℕ) = (j 0 : ℕ) → (y 2 : ℕ) = 0 * 256 + (j 1 : ℕ) →
      View.canon (kernelRun0_B.sl.HS2_1 c i arg4 harg4 arg7 harg7 x2 (SPLIT T)) j = BYTE T x2 (i 0) (i 1) y :=
    byte_canon read_split hb (i 0) (i 1) 0 (off_at i 0).1 (off_at i 0).2
  have hE1 : ∀ (j : S576x256.Idx) (y : S1x576x1024.Idx), (y 1 : ℕ) = (j 0 : ℕ) → (y 2 : ℕ) = 1 * 256 + (j 1 : ℕ) →
      View.canon (kernelRun0_B.sl.HS2_2 c i arg4 harg4 arg7 harg7 x2 (SPLIT T)) j = BYTE T x2 (i 0) (i 1) y :=
    byte_canon read_split hb (i 0) (i 1) 1 (off_at i 1).1 (off_at i 1).2
  have hE2 : ∀ (j : S576x256.Idx) (y : S1x576x1024.Idx), (y 1 : ℕ) = (j 0 : ℕ) → (y 2 : ℕ) = 2 * 256 + (j 1 : ℕ) →
      View.canon (kernelRun0_B.sl.HS2_3 c i arg4 harg4 arg7 harg7 x2 (SPLIT T)) j = BYTE T x2 (i 0) (i 1) y :=
    byte_canon read_split hb (i 0) (i 1) 2 (off_at i 2).1 (off_at i 2).2
  have hE3 : ∀ (j : S576x256.Idx) (y : S1x576x1024.Idx), (y 1 : ℕ) = (j 0 : ℕ) → (y 2 : ℕ) = 3 * 256 + (j 1 : ℕ) →
      View.canon (kernelRun0_B.sl.HS2_4 c i arg4 harg4 arg7 harg7 x2 (SPLIT T)) j = BYTE T x2 (i 0) (i 1) y :=
    byte_canon read_split hb (i 0) (i 1) 3 (off_at i 3).1 (off_at i 3).2
  unfold kernelRun0_B
  dsimp only
  iterate 36 refine pieces_cons (fun x => piece_at (harg3 := harg3) (x1 := x1) hW hE3 rfl rfl rfl rfl x) ?_
  iterate 36 refine pieces_cons (fun x => piece_at (harg3 := harg3) (x1 := x1) hW hE2 rfl rfl rfl rfl x) ?_
  iterate 36 refine pieces_cons (fun x => piece_at (harg3 := harg3) (x1 := x1) hW hE1 rfl rfl rfl rfl x) ?_
  iterate 36 refine pieces_cons (fun x => piece_at (harg3 := harg3) (x1 := x1) hW hE0 rfl rfl rfl rfl x) ?_
  exact pieces_nil

end Cert.CombineIdeal.Value

end
-- ==== Proof.CombineOutA.lean ====
module

public import proofs.«01_k».proof.Proof.CombineOut

@[expose] public section

set_option maxRecDepth 65536

noncomputable section

open Idealize.ShloMosaic Idealize.ShloMosaic.TcCoe Idealize.SL.Sem
open Idealize.ShloMosaic.Pipeline (Dat)

namespace Cert.CombineIdeal.Value
open Cert.CombineIdeal Cert.CombineIdeal.Gen

attribute [local irreducible] bitcast

set_option maxHeartbeats 4000000 in
/-- Every piece that the first step stores is its part of `OUT`, its table the one it has just split. -/
theorem out_A (c : Dev nD) (i : grid0.Coords)
    (arg2 : Memref sig .tc .vmem S1x6x1152x128 .i32) (harg2 : arg2.IsWhole) (arg3 : Memref sig .tc .vmem S1x6x1024 .f32) (harg3 : arg3.IsWhole)
    (arg4 : Memref sig .tc .vmem S10x3072 .i32) (harg4 : arg4.IsWhole) (arg5 : Memref sig .tc .vmem S576x256 .f32) (harg5 : arg5.IsWhole)
    (arg6 : Memref sig .tc .vmem S1x576x1024 .bf16) (harg6 : arg6.IsWhole) (arg7 : Memref sig .tc .vmem S576x768 .bf16) (harg7 : arg7.IsWhole)
    (arg8 : Memref sig .tc .vmem S6x1152x128 .i32) (harg8 : arg8.IsWhole) (arg9 : Memref sig .tc .vmem S576x256 .f32) (harg9 : arg9.IsWhole)
    (hc0) (x0 : Vec Ideal S1x6x1152x128 .i32) (x1 : Vec Ideal S1x6x1024 .f32) (x2 : Vec Ideal S10x3072 .i32) (x3 : Vec Ideal S576x256 .f32)
    (hf : ∀ y, x3 y ≠ ⊤ ∧ x3 y ≠ ⊥) (hb : ∀ y, (x2 y).toNat < 256) :
    View.PiecesOf (OUT (WORDS x0) x1 (BYTE x3 x2 (i 0) (i 1)))
      (kernelRun0_A (F := Ideal) c i arg2 harg2 arg3 harg3 arg4 harg4 arg5 harg5 arg6 harg6 arg7 harg7 arg8 harg8 arg9 harg9 hc0 x0 x1 x2 x3).1 := by
  have hW := canon_words_A c arg2 harg2 x0
  have hE0 : ∀ (j : S576x256.Idx) (y : S1x576x1024.Idx), (y 1 : ℕ) = (j 0 : ℕ) → (y 2 : ℕ) = 0 * 256 + (j 1 : ℕ) →
      View.canon (kernelRun0_A.sl.HS2_1 c i arg4 harg4 arg5 harg5 arg7 x2 x3) j = BYTE x3 x2 (i 0) (i 1) y :=
    byte_canon (load_split (split_A c arg5 harg5 x3 hf)) hb (i 0) (i 1) 0 (off_at i 0).1 (off_at i 0).2
  have hE1 : ∀ (j : S576x256.Idx) (y : S1x576x1024.Idx), (y 1 : ℕ) = (j 0 : ℕ) → (y 2 : ℕ) = 1 * 256 + (j 1 : ℕ) →
      View.canon (kernelRun0_A.sl.HS2_2 c i arg4 harg4 arg5 harg5 arg7 x2 x3) j = BYTE x3 x2 (i 0) (i 1) y :=
    byte_canon (load_split (split_A c arg5 harg5 x3 hf)) hb (i 0) (i 1) 1 (off_at i 1).1 (off_at i 1).2
  have hE2 : ∀ (j : S576x256.Idx) (y : S1x576x1024.Idx), (y 1 : ℕ) = (j 0 : ℕ) → (y 2 : ℕ) = 2 * 256 + (j 1 : ℕ) →
      View.canon (kernelRun0_A.sl.HS2_3 c i arg4 harg4 arg5 harg5 arg7 x2 x3) j = BYTE x3 x2 (i 0) (i 1) y :=
    byte_canon (load_split (split_A c arg5 harg5 x3 hf)) hb (i 0) (i 1) 2 (off_at i 2).1 (off_at i 2).2
  have hE3 : ∀ (j : S576x256.Idx) (y : S1x576x1024.Idx), (y 1 : ℕ) = (j 0 : ℕ) → (y 2 : ℕ) = 3 * 256 + (j 1 : ℕ) →
      View.canon (kernelRun0_A.sl.HS2_4 c i arg4 harg4 arg5 harg5 arg7 x2 x3) j = BYTE x3 x2 (i 0) (i 1) y :=
    byte_canon (load_split (split_A c arg5 harg5 x3 hf)) hb (i 0) (i 1) 3 (off_at i 3).1 (off_at i 3).2
  unfold kernelRun0_A
  dsimp only
  iterate 36 refine pieces_cons (fun x => piece_at (harg3 := harg3) (x1 := x1) hW hE3 rfl rfl rfl rfl x) ?_
  iterate 36 refine pieces_cons (fun x => piece_at (harg3 := harg3) (x1 := x1) hW hE2 rfl rfl rfl rfl x) ?_
  iterate 36 refine pieces_cons (fun x => piece_at (harg3 := harg3) (x1 := x1) hW hE1 rfl rfl rfl rfl x) ?_
  iterate 36 refine pieces_cons (fun x => piece_at (harg3 := harg3) (x1 := x1) hW hE0 rfl rfl rfl rfl x) ?_
  exact pieces_nil

end Cert.CombineIdeal.Value

end
-- ==== Proof.CombineRes.lean ====
module

public import Idealize.ShloMosaic.Lib.BitcastConvert
public import proofs.«01_k».proof.Proof.CombinePiece
public import proofs.«01_k».proof.Proof.Gen.CombineReferenceIdeal.Run

@[expose] public section

set_option maxRecDepth 16384

noncomputable section

open Idealize.ShloMosaic Idealize.ShloMosaic.TcCoe Idealize.SL.Sem
open Idealize.ShloMosaic.Pipeline (Dat)

namespace Cert.CombineIdeal.Value
open Cert.CombineIdeal Cert.CombineIdeal.Gen

/-- The row of the gathered words that holds head `n` of sequence `b` at position `l`. -/
def ROW (b : Fin 10) (n : Fin 6) (l : Fin 3072) : Fin 184320 :=
  ⟨b.val * 18432 + n.val * 3072 + l.val / 1024 * 1024 + l.val % 128 * 8 + l.val / 128 % 8, by omega⟩

/-- The element `(b, d, l)` of the result: the byte's embedding plus the six heads' codes, each times its row's scale. -/
def RES (a0 : Vec Ideal S184320x144 .i32) (a1 : Vec Ideal S1440x128 .f32) (a2 : Vec Ideal S10x3072 .i32) (a3 : Vec Ideal S256x576 .f32) :
    Vec Ideal S10x576x3072 .bf16 := fun j =>
  let b : Fin 10 := j 0
  let d : Fin 576 := j 1
  let l : Fin 3072 := j 2
  (a3 (ix2 (⟨min (a2 (ix2 b l)).toInt.toNat 255, by omega⟩ : Fin 256) d)
    + ∑ n : Fin 6, CODE (a0 (ix2 (ROW b n l) (⟨d.val / 4, by omega⟩ : Fin 144))) (d.val % 4)
        * a1 (ix2 (⟨b.val * 144 + n.val * 24 + l.val / 128, by omega⟩ : Fin 1440) (⟨l.val % 128, by omega⟩ : Fin 128)) : EReal)

/-- The result with its last two axes exchanged: element `(b, l, d)`. -/
def TRES (a0 : Vec Ideal S184320x144 .i32) (a1 : Vec Ideal S1440x128 .f32) (a2 : Vec Ideal S10x3072 .i32) (a3 : Vec Ideal S256x576 .f32) :
    Vec Ideal S10x3072x576 .bf16 := fun j => RES a0 a1 a2 a3 (ix3 (j 0) (j 2) (j 1))

/-- The operation after the kernel exchanges them. -/
theorem transpose_res (a0 : Vec Ideal S184320x144 .i32) (a1 : Vec Ideal S1440x128 .f32) (a2 : Vec Ideal S10x3072 .i32) (a3 : Vec Ideal S256x576 .f32) :
    transpose S10x3072x576 [0, 2, 1] (RES a0 a1 a2 a3) transposes_S10x576x3072_S10x3072x576_0_2_1 = TRES a0 a1 a2 a3 := by
  funext j
  unfold TRES
  generalize RES a0 a1 a2 a3 = R
  pointwise

section
open Cert.CombineReferenceIdeal Cert.CombineReferenceIdeal.Gen

/-- The byte table's row named by the byte at `(b, l)`, clipped into the table. -/
theorem gather_at (a3 : Vec Ideal CombineReferenceIdeal.S256x576 .f32) (s : Vec Ideal CombineReferenceIdeal.S10x3072x1 .i32)
    (y : CombineReferenceIdeal.S10x3072x576.Idx) :
    Host.gather gather_S256x576_S10x3072x1_S10x3072x576_2_0_n_n_0_2_1576 a3 s y
      = a3 (ix2 (⟨min (s (ix3 (y 0) (y 1) 0)).toInt.toNat 255, by omega⟩ : Fin 256) (y 2)) := by
  unfold Host.gather
  congr 1
  funext a
  refine Fin.ext ?_
  have hN : ∀ k : Fin 2, k ∉ gather_S256x576_S10x3072x1_S10x3072x576_2_0_n_n_0_2_1576.operandBatchingDims := fun _ => List.not_mem_nil
  match a with
  | ⟨0, _⟩ =>
    have hm : (0 : Fin 2) ∈ gather_S256x576_S10x3072x1_S10x3072x576_2_0_n_n_0_2_1576.startIndexMap := List.mem_singleton.mpr rfl
    show gather_S256x576_S10x3072x1_S10x3072x576_2_0_n_n_0_2_1576.start y s 0 + gather_S256x576_S10x3072x1_S10x3072x576_2_0_n_n_0_2_1576.batchCoord y 0 + gather_S256x576_S10x3072x1_S10x3072x576_2_0_n_n_0_2_1576.offCoord y 0 = _
    rw [gather_S256x576_S10x3072x1_S10x3072x576_2_0_n_n_0_2_1576.batchCoord_eq_zero _ _ (hN 0),
      gather_S256x576_S10x3072x1_S10x3072x576_2_0_n_n_0_2_1576.offCoord_eq_zero _ _ (fun h => ((gather_S256x576_S10x3072x1_S10x3072x576_2_0_n_n_0_2_1576.mem_sKept _).mp h).1 (List.mem_singleton.mpr rfl))]
    simp only [Nat.add_zero]
    unfold GatherDims.start
    rw [dif_pos hm]
    have hs : gather_S256x576_S10x3072x1_S10x3072x576_2_0_n_n_0_2_1576.siIdx y ⟨List.idxOf (0 : Fin 2) gather_S256x576_S10x3072x1_S10x3072x576_2_0_n_n_0_2_1576.startIndexMap, List.idxOf_lt_length_iff.2 hm⟩ = ix3 (y 0) (y 1) 0 := by
      funext k
      refine Fin.ext ?_
      match k with
      | ⟨0, _⟩ => rfl
      | ⟨1, _⟩ => rfl
      | ⟨2, _⟩ => rfl
    rw [hs]
    rfl
  | ⟨1, _⟩ =>
    show gather_S256x576_S10x3072x1_S10x3072x576_2_0_n_n_0_2_1576.start y s 1 + gather_S256x576_S10x3072x1_S10x3072x576_2_0_n_n_0_2_1576.batchCoord y 1 + gather_S256x576_S10x3072x1_S10x3072x576_2_0_n_n_0_2_1576.offCoord y 1 = _
    rw [gather_S256x576_S10x3072x1_S10x3072x576_2_0_n_n_0_2_1576.batchCoord_eq_zero _ _ (hN 1)]
    unfold GatherDims.start
    rw [dif_neg (by decide)]
    rw [Nat.zero_add]
    rfl

/-- The reference's result, element by element. -/
theorem res_eq (a0 : Vec Ideal S184320x144 .i32) (a1 : Vec Ideal S1440x128 .f32) (a2 : Vec Ideal S10x3072 .i32) (a3 : Vec Ideal S256x576 .f32) :
    (truncf (F := Ideal) .bf16 (addf (Host.gather gather_S256x576_S10x3072x1_S10x3072x576_2_0_n_n_0_2_1576 a3 (broadcastInDim CombineReferenceIdeal.S10x3072x1 ![0, 1] bcast_S10x3072_S10x3072x1_0_1 a2)) (Host.reduceAdd (mulf (sitofp .f32 (extsi 32 (shapeCast _ (transpose CombineReferenceIdeal.S10x6x3x8x128x576 [0, 1, 2, 4, 3, 5] (shapeCast _ (Host.bitcastConvertNarrow CombineReferenceIdeal.S184320x144x4 8 a0 splits_S184320x144_w32_S184320x144x4_w8) shapeCasts_S184320x144x4_S10x6x3x128x8x576) transposes_S10x6x3x128x8x576_S10x6x3x8x128x576_0_1_2_4_3_5) shapeCasts_S10x6x3x8x128x576_S10x6x3072x576) natLt_8_32)) (broadcastInDim CombineReferenceIdeal.S10x6x3072x576 ![0, 1, 2, 3] bcast_S10x6x3072x1_S10x6x3072x576_0_1_2_3 (broadcastInDim CombineReferenceIdeal.S10x6x3072x1 ![0, 1, 2] bcast_S10x6x3072_S10x6x3072x1_0_1_2 (shapeCast _ a1 CombineReferenceIdeal.Gen.shapeCasts_S1440x128_S10x6x3072)))) (constant CombineReferenceIdeal.S_ .f32 0x00000000#32) reducesTo_S10x6x3072x576_S10x3072x576_d1 h_S_)) CombineReferenceIdeal.Gen.bitsLt_bf16_f32)
      = TRES a0 a1 a2 a3 := by
  funext j
  unfold TRES RES
  pointwise
  rw [gather_at]
  pointwise
  refine congrArg₂ (α := EReal) (β := EReal) (· + ·) rfl (Finset.sum_congr rfl fun n _ => congrArg₂ (α := EReal) (β := EReal) (· * ·) ?_ rfl)
  unfold CODE ROW
  refine congrArg (fun w => FloatOps.sitofp (F := Ideal) FTy.f32 (BitVec.signExtend 32 (BitVec.extractLsb' ((j 2 : ℕ) % 4 * 8) 8 (a0 w)))) ?_
  funext k
  match k with
  | ⟨0, _⟩ => rfl
  | ⟨1, _⟩ => rfl
end

end Cert.CombineIdeal.Value

end
-- ==== Proof.CombineRun.lean ====
module

public import proofs.«01_k».proof.Proof.Gen.CombineIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CombineIdeal.Value
open Cert.CombineIdeal Cert.CombineIdeal.Gen

variable {F : FTy → Type} [FloatOps F]
variable (m : (ℓ : Loc nD τ sig) → Buf (Elt F) ℓ) (ρ : Dev nD → PrngReg)

/-- The kernel's windows read five different arrays. -/
theorem arr_inj : Function.Injective (Pipeline.arrRef spec0) := by decide

/-- The operation after the kernel transposes the array that the kernel leaves. -/
theorem tail_v4 (c : Dev nD) :
    Pipeline.afterTail₀ cfgs (dats m) 0 (V0 m) [hostOps1] c main_v4
      = transpose S10x3072x576 [0, 2, 1] ((dats m 0 c).arrAt 4 cfg0.N) transposes_S10x576x3072_S10x3072x576_0_2_1 := by
  unfold Pipeline.afterTail₀
  simp only [hostOps1, List.flatten_cons, List.flatten_nil, List.append_nil]
  after_results
  exact congrArg (transpose S10x3072x576 [0, 2, 1] · transposes_S10x576x3072_S10x3072x576_0_2_1)
    (Pipeline.withArrays_arr spec0 arr_inj c (V0 m c) (fun w => (dats m 0 c).arrAt w cfg0.N) 4)

/-- The next operation takes the first seven positions of that. -/
theorem tail_v5 (c : Dev nD) :
    Pipeline.afterTail₀ cfgs (dats m) 0 (V0 m) [hostOps1] c main_v5
      = extractStridedSlice S10x7x576 ![0, 0, 0]
          (transpose S10x3072x576 [0, 2, 1] ((dats m 0 c).arrAt 4 cfg0.N) transposes_S10x576x3072_S10x3072x576_0_2_1)
          slices_S10x3072x576_S10x7x576_0_0_0 := by
  unfold Pipeline.afterTail₀
  simp only [hostOps1, List.flatten_cons, List.flatten_nil, List.append_nil]
  after_results
  exact congrArg (fun x => extractStridedSlice S10x7x576 ![0, 0, 0]
      (transpose S10x3072x576 [0, 2, 1] x transposes_S10x576x3072_S10x3072x576_0_2_1) slices_S10x3072x576_S10x7x576_0_0_0)
    (Pipeline.withArrays_arr spec0 arr_inj c (V0 m c) (fun w => (dats m 0 c).arrAt w cfg0.N) 4)

/-- The run: the first result is the transposed array, the second its first seven positions, the arguments are unchanged. -/
theorem run_blocks : θ_run defs (onTc (τ := τ) (main (F := F))) ⟨m, fun _ => 0, ρ⟩ fun r => ∀ c : Dev nD,
      r.2.mem ((c : Thread nD τ).loc main_v4)
        = transpose S10x3072x576 [0, 2, 1] ((dats m 0 c).arrAt 4 cfg0.N) transposes_S10x576x3072_S10x3072x576_0_2_1
      ∧ r.2.mem ((c : Thread nD τ).loc main_v5)
        = extractStridedSlice S10x7x576 ![0, 0, 0]
            (transpose S10x3072x576 [0, 2, 1] ((dats m 0 c).arrAt 4 cfg0.N) transposes_S10x576x3072_S10x3072x576_0_2_1)
            slices_S10x3072x576_S10x7x576_0_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).2 main_v4 (Pipeline.mem_restRefs_of main_v4 (by decide) (by decide))).trans (tail_v4 m c),
      ((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.CombineIdeal.Value

end
-- ==== Proof.CombineFinal.lean ====
module

public import proofs.«01_k».proof.Proof.CombineOut
public import proofs.«01_k».proof.Proof.CombineOutA
public import proofs.«01_k».proof.Proof.CombineRes
public import proofs.«01_k».proof.Proof.CombineRun

@[expose] public section

set_option maxRecDepth 16384

noncomputable section

open Idealize.ShloMosaic Idealize.ShloMosaic.TcCoe Idealize.SL.Sem
open Idealize.ShloMosaic.Pipeline (Dat)

namespace Cert.CombineIdeal.Value
open Cert.CombineIdeal Cert.CombineIdeal.Gen

variable (m : (ℓ : Loc nD τ sig) → Buf (Elt Ideal) ℓ)

/-- The blocks of grid point `t`: sequence `t / 3`, run `t % 3`. -/
theorem idx : ∀ t : Fin cfg0.N, win0_0.index t = ![t.val / 3, 0, t.val % 3, 0] ∧ win0_1.index t = ![t.val / 3, 0, t.val % 3]
    ∧ win0_2.index t = ![0, 0] ∧ win0_3.index t = ![0, 0] ∧ win0_4.index t = ![t.val / 3, 0, t.val % 3] :=
  (by decide +kernel : ∀ t : Fin grid0.N, _)

theorem coords_eq : ∀ t : Fin cfg0.N, ((grid0.coords t 0 : Fin _) : ℕ) = t.val / 3 ∧ ((grid0.coords t 1 : Fin _) : ℕ) = t.val % 3 :=
  (by decide +kernel : ∀ t : Fin grid0.N, _)

theorem lt_N (t : Fin cfg0.N) : t.val < 30 := lt_of_lt_of_eq t.isLt (show cfg0.N = 30 from N_0)

/-- The kernel's four arrays: the words, the scales, the bytes, the table. -/
def A0 (c : Dev nD) : Vec Ideal S10x6x3456x128 .i32 := V m c main_v1
def A1 (c : Dev nD) : Vec Ideal S10x6x3072 .f32 := V m c main_v2
def A2 (c : Dev nD) : Vec Ideal S10x3072 .i32 := V m c main_arg2
def A3 (c : Dev nD) : Vec Ideal S576x256 .f32 := V m c main_v0

/-- The four arguments they are made of. -/
def a0 (c : Dev nD) : Vec Ideal S184320x144 .i32 := m (c, Proc.tc.devRef main_arg0)
def a1 (c : Dev nD) : Vec Ideal S1440x128 .f32 := m (c, Proc.tc.devRef main_arg1)
def a2 (c : Dev nD) : Vec Ideal S10x3072 .i32 := m (c, Proc.tc.devRef main_arg2)
def a3 (c : Dev nD) : Vec Ideal S256x576 .f32 := m (c, Proc.tc.devRef main_arg3)

theorem iblk3 (c : Dev nD) (t : Fin cfg0.N) : (iblk m c 3 t : Vec Ideal S576x256 .f32) = A3 m c := by
  unfold A3; blk_ext! [iblk, idx t]

theorem iblk2 (c : Dev nD) (t : Fin cfg0.N) : (iblk m c 2 t : Vec Ideal S10x3072 .i32) = A2 m c := by
  unfold A2; blk_ext! [iblk, idx t]

theorem iblk1 (c : Dev nD) (t : Fin cfg0.N) (n : Fin 6) (l : Fin 1024) :
    (iblk m c 1 t : Vec Ideal S1x6x1024 .f32) (ix3 0 n l)
      = A1 m c (ix3 ⟨t.val / 3, by have := lt_N t; omega⟩ n ⟨t.val % 3 * 1024 + l.val, by omega⟩) := by
  unfold A1; blk_ext! [iblk, idx t]

theorem iblk0 (c : Dev nD) (t : Fin cfg0.N) (n : Fin 6) (r : Fin 1152) (l : Fin 128) :
    (iblk m c 0 t : Vec Ideal S1x6x1152x128 .i32) (ix4 0 n r l)
      = A0 m c (ix4 ⟨t.val / 3, by have := lt_N t; omega⟩ n ⟨t.val % 3 * 1152 + r.val, by omega⟩ l) := by
  unfold A0; blk_ext! [iblk, idx t]

theorem A0_at (c : Dev nD) (b : Fin 10) (n : Fin 6) (r : Fin 3456) (l : Fin 128) (R : Fin 184320) (C : Fin 144)
    (h : R.val * 144 + C.val = b.val * 2654208 + n.val * 442368 + r.val * 128 + l.val) :
    A0 m c (ix4 b n r l) = a0 m c (ix2 R C) := by
  unfold A0; simp only [V, V0, List.flatten_cons, List.flatten_nil, List.append_nil]; entry_read; pointwise
  unfold a0
  congr 1
  refine congrArg₂ ix2 (Fin.ext ?_) (Fin.ext ?_) <;> dsimp <;> omega

theorem A1_at (c : Dev nD) (b : Fin 10) (n : Fin 6) (l : Fin 3072) :
    A1 m c (ix3 b n l) = a1 m c (ix2 (⟨b.val * 144 + n.val * 24 + l.val / 128, by omega⟩ : Fin 1440) (⟨l.val % 128, by omega⟩ : Fin 128)) := by
  unfold A1; simp only [V, V0, List.flatten_cons, List.flatten_nil, List.append_nil]; entry_read; pointwise
  rfl

theorem A2_eq (c : Dev nD) : A2 m c = a2 m c := by
  unfold A2; simp only [V, V0, List.flatten_cons, List.flatten_nil, List.append_nil]; entry_read; rfl

theorem A3_at (c : Dev nD) (d : Fin 576) (k : Fin 256) : A3 m c (ix2 d k) = a3 m c (ix2 k d) := by
  unfold A3; simp only [V, V0, List.flatten_cons, List.flatten_nil, List.append_nil]; entry_read; pointwise
  rfl

variable (hf : ∀ c y, a3 m c y ≠ ⊤ ∧ a3 m c y ≠ ⊥) (hb : ∀ c y, (a2 m c y).toNat < 256)

include hf in
theorem hf3 (c : Dev nD) (y : S576x256.Idx) : A3 m c y ≠ ⊤ ∧ A3 m c y ≠ ⊥ := by
  have e : A3 m c y = a3 m c (ix2 (y 1) (y 0)) := (congrArg (A3 m c) (ix2_eta y).symm).trans (A3_at m c _ _)
  rw [e]
  exact hf c _

/-- What one step leaves in its block, over the kernel's arrays. -/
def STEP (c : Dev nD) (t : Fin cfg0.N) : S1x576x1024.Idx → EReal :=
  OUT (WORDS (iblk m c 0 t)) (iblk m c 1 t) (BYTE (A3 m c) (A2 m c) (grid0.coords t 0) (grid0.coords t 1))

include hf in
/-- The split table that every step leaves. -/
theorem sc (c : Dev nD) : ∀ (n : ℕ) (hn : n < cfg0.N), (outsAt0 m c n hn).2 = SPLIT (A3 m c)
  | 0, hn => by
    have e := congrArg Prod.snd (outsAt0_A m c ⟨0, hn⟩ (Nat.zero_mod _))
    refine e.trans ?_
    dsimp only
    unfold sout0_A_0
    rw [View.read_writes_junk_eq_canon]
    refine Eq.trans (split_A c _ (hs0_3 _) (iblk m c 3 ⟨0, hn⟩) ?_) (congrArg SPLIT (iblk3 m c _))
    rw [iblk3]
    exact hf3 m hf c
  | n + 1, hn => by
    have h0 : ¬((⟨n + 1, hn⟩ : Fin cfg0.N).val % 30 = 0) := by
      have := lt_N ⟨n + 1, hn⟩
      dsimp only at *
      omega
    have e := congrArg Prod.snd (outsAt0_B m c ⟨n + 1, hn⟩ h0)
    refine e.trans ?_
    exact sc c n (Nat.lt_of_succ_lt hn)

include hf hb in
/-- What every step leaves in its block. -/
theorem step (c : Dev nD) (t : Fin cfg0.N) : (outsAt0 m c t.val t.isLt).1 = STEP m c t := by
  have hb2 : ∀ y, (A2 m c y).toNat < 256 := by rw [A2_eq]; exact hb c
  by_cases h0 : t.val % 30 = 0
  · have e := congrArg Prod.fst (outsAt0_A m c t h0)
    refine e.trans ?_
    dsimp only
    unfold out0_A_4
    rw [View.read_writes_junk_eq_canon]
    refine canon_of_pieces ?_ (cover0_A_4 _ _ _ _ _ _ _ _ _ _ _ _ _ _ _ _ _ _ _ _ _ _ _)
    unfold STEP
    rw [iblk2, iblk3]
    exact out_A _ _ _ _ _ _ _ _ _ _ _ _ _ _ _ _ _ _ _ _ _ _ _ (hf3 m hf c) hb2
  · have e := congrArg Prod.fst (outsAt0_B m c t h0)
    refine e.trans ?_
    dsimp only
    unfold out0_B_4
    rw [View.read_writes_junk_eq_canon]
    refine canon_of_pieces ?_ (cover0_B_4 _ _ _ _ _ _ _ _ _ _ _ _ _ _ _ _ _ _ _ _ _ _ _ _)
    unfold STEP
    rw [sc m hf, iblk2]
    exact out_B _ _ _ _ _ _ _ _ _ _ _ _ _ _ _ _ _ _ _ _ _ _ _ _ hb2

/-- Word `M` of the codes of position `l` of step `t`, head `n`, is one word of the row of that head and position. -/
theorem word_at (c : Dev nD) (t : Fin cfg0.N) (n : Fin 6) (d : Fin 576) (l : Fin 1024) (M : Fin 1152) (L : Fin 128)
    (hM : M.val = l.val / 128 * 144 + d.val / 4) (hL : L.val = l.val % 128) (b : Fin 10) (hbt : b.val = t.val / 3)
    (g : Fin 3072) (hg : g.val = t.val % 3 * 1024 + l.val) :
    WORDS (iblk m c 0 t) (ix3 n M L) = a0 m c (ix2 (ROW b n g) (⟨d.val / 4, by omega⟩ : Fin 144)) := by
  unfold WORDS
  refine (iblk0 m c t n _ _).trans ?_
  refine A0_at m c _ _ _ _ _ _ ?_
  unfold ROW
  simp only [ix3_0, ix3_1, ix3_2]
  omega

include hb in
/-- The block of step `t` is that part of the result. -/
theorem step_res (c : Dev nD) (t : Fin cfg0.N) (z : Fin 1) (d : Fin 576) (l : Fin 1024) :
    STEP m c t (ix3 z d l) = RES (a0 m c) (a1 m c) (a2 m c) (a3 m c)
      (ix3 (⟨t.val / 3, by have := lt_N t; omega⟩ : Fin 10) d (⟨t.val % 3 * 1024 + l.val, by omega⟩ : Fin 3072)) := by
  have hN := lt_N t
  unfold STEP OUT RES
  dsimp only
  refine congrArg₂ (α := EReal) (β := EReal) (· + ·) ?_ ?_
  · unfold BYTE
    rw [A2_eq]
    refine (A3_at m c _ _).trans ?_
    have hs : ∀ b b' : Fin 10, ∀ g g' : Fin 3072, b.val = b'.val → g.val = g'.val →
        min (a2 m c (ix2 b g)).toNat 255 = min (a2 m c (ix2 b' g')).toInt.toNat 255 := fun b b' g g' h h' => by
      obtain rfl := Fin.ext h
      obtain rfl := Fin.ext h'
      have := hb c (ix2 b g)
      rw [BitVec.toInt_eq_toNat_of_lt (by omega), Int.toNat_natCast]
    refine congrArg (a3 m c) (congrArg₂ ix2 (Fin.ext ?_) rfl)
    exact hs _ _ _ _ (coords_eq t).1 (by have := (coords_eq t).2; simp only [ix3_2]; rw [this])
  · rw [Fin.sum_univ_six]
    have term : ∀ n : Fin 6, CODE (WORDS (iblk m c 0 t) (ix3 n (⟨l.val / 128 * 144 + d.val / 4, by omega⟩ : Fin 1152) (⟨l.val % 128, by omega⟩ : Fin 128)))
          (d.val % 4) * (iblk m c 1 t : Vec Ideal S1x6x1024 .f32) (ix3 0 n l)
        = CODE (a0 m c (ix2 (ROW ⟨t.val / 3, by omega⟩ n ⟨t.val % 3 * 1024 + l.val, by omega⟩) (⟨d.val / 4, by omega⟩ : Fin 144))) (d.val % 4)
          * a1 m c (ix2 (⟨t.val / 3 * 144 + n.val * 24 + (t.val % 3 * 1024 + l.val) / 128, by omega⟩ : Fin 1440)
              (⟨(t.val % 3 * 1024 + l.val) % 128, by omega⟩ : Fin 128)) := fun n => by
      rw [word_at m c t n d l _ _ rfl rfl ⟨t.val / 3, by omega⟩ rfl ⟨t.val % 3 * 1024 + l.val, by omega⟩ rfl, iblk1, A1_at]
    exact congrArg₂ (α := EReal) (β := EReal) (· + ·) (congrArg₂ (α := EReal) (β := EReal) (· + ·) (congrArg₂ (α := EReal) (β := EReal) (· + ·) (congrArg₂ (α := EReal) (β := EReal) (· + ·)
      (congrArg₂ (α := EReal) (β := EReal) (· + ·) (term 0) (term 1)) (term 2)) (term 3)) (term 4)) (term 5)

include hf hb in
/-- The result array at the end of the kernel. -/
theorem final (c : Dev nD) : (dats m 0 c).arrAt 4 cfg0.N = RES (a0 m c) (a1 m c) (a2 m c) (a3 m c) := by
  refine (dats m 0 c).arrAt_eq_of_covers 4 _ (by decide +kernel) fun t _ y => ?_
  blk_simp [idx t]
  rw [after0_4, step m hf hb]
  have h2 : ((y 2 : Fin 1024) : ℕ) < 1024 := Fin.isLt (n := 1024) (y 2)
  have e : (win0_4.blk t).view.emb y = ix3 (⟨t.val / 3, by have := lt_N t; omega⟩ : Fin 10) (y 1 : Fin 576)
      (⟨t.val % 3 * 1024 + (y 2 : Fin 1024).val, by omega⟩ : Fin 3072) := by
    blk_ext! [idx t]
  refine Eq.trans ?_ (congrArg (RES (a0 m c) (a1 m c) (a2 m c) (a3 m c)) e.symm)
  exact (congrArg (STEP m c t) (ix3_eta (y : S1x576x1024.Idx)).symm).trans (step_res m hb c t _ _ _)

/-- The first result of the kernel: the embeddings. -/
def EMB (c : Dev nD) : Vec Ideal S10x3072x576 .bf16 := TRES (a0 m c) (a1 m c) (a2 m c) (a3 m c)

/-- The first seven positions. -/
def first7 (x : Vec Ideal S10x3072x576 .bf16) : Vec Ideal S10x7x576 .bf16 :=
  extractStridedSlice S10x7x576 ![0, 0, 0] x slices_S10x3072x576_S10x7x576_0_0_0

/-- The second result of the kernel: the embeddings of the first seven positions. -/
def HEAD (c : Dev nD) : Vec Ideal S10x7x576 .bf16 := first7 (EMB m c)

end Cert.CombineIdeal.Value

end
-- ==== Proof.CombinePre.lean ====
module

public import proofs.«01_k».proof.Defs
public import proofs.«01_k».proof.Proof.CombineFinal

@[expose] public section

set_option maxRecDepth 16384

noncomputable section

open Idealize.ShloMosaic Idealize.ShloMosaic.TcCoe Idealize.SL.Sem

namespace Cert.CombineIdeal.Value
open Cert.CombineIdeal Cert.CombineIdeal.Gen

/-- The shapes the precondition's constants are spread over. -/
theorem pre_facts : Cert.Pre_table_finite_bytes_in_range.Facts where
  bcast_S_S256x576 := by decide
  bcast_S_S10x3072 := by decide

theorem finite_of (x : EReal) (h : IntOp.andi (FloatOps.cmpf (F := Ideal) (φ := .f32) .ogt x (FloatOps.ofBits .f32 0xFF800000#32))
    (FloatOps.cmpf (F := Ideal) (φ := .f32) .olt x (FloatOps.ofBits .f32 0x7F800000#32)) = 1#1) : x ≠ ⊤ ∧ x ≠ ⊥ := by
  have hT : Ideal.ofBits .f32 0x7F800000#32 = ⊤ := by simp [Ideal.ofBits, Ideal.ieee]
  have hB : Ideal.ofBits .f32 0xFF800000#32 = ⊥ := by simp [Ideal.ofBits, Ideal.ieee]
  change IntOp.andi (Ideal.cmp .ogt x (Ideal.ofBits .f32 0xFF800000#32)) (Ideal.cmp .olt x (Ideal.ofBits .f32 0x7F800000#32)) = 1#1 at h
  rw [hT, hB] at h
  constructor
  · rintro rfl
    simp [Ideal.cmp, IntOp.andi] at h
  · rintro rfl
    simp [Ideal.cmp, IntOp.andi] at h

theorem byte_of (x : BitVec 32) (h : IntOp.andi (IntOp.cmpi .sge x 0#32) (IntOp.cmpi .slt x 256#32) = 1#1) : x.toNat < 256 := by
  have hs : (0#32).sle x = true ∧ x.slt 256#32 = true := by
    cases h0 : (0#32).sle x <;> cases h1 : x.slt 256#32 <;> simp_all [IntOp.andi, IntOp.cmpi]
  have h0 := BitVec.sle_iff_toInt_le.mp hs.1
  have h1 := BitVec.slt_iff_toInt_lt.mp hs.2
  have e0 : (0#32).toInt = 0 := rfl
  have e1 : (256#32).toInt = 256 := rfl
  have hx := x.isLt
  rw [e0] at h0
  rw [e1] at h1
  have e := BitVec.toInt_eq_toNat_cond x
  split at e <;> omega

variable (m : (ℓ : Loc nD τ sig) → Buf (Elt Ideal) ℓ)

/-- A table that satisfies the precondition is finite. -/
theorem pre_finite (h : Pre_CombineIdeal_table_finite_bytes_in_range (hPre_table_finite_bytes_in_range := pre_facts) m) (c : Dev nD)
    (y : S256x576.Idx) : a3 m c y ≠ ⊤ ∧ a3 m c y ≠ ⊥ := by
  have e := congrFun (h c).1 y
  unfold Cert.Pre_table_finite_bytes_in_range.fn at e
  pointwise at e
  exact finite_of _ e

/-- Bytes that satisfy the precondition are in `[0, 256)`. -/
theorem pre_bytes (h : Pre_CombineIdeal_table_finite_bytes_in_range (hPre_table_finite_bytes_in_range := pre_facts) m) (c : Dev nD)
    (y : S10x3072.Idx) : (a2 m c y).toNat < 256 := by
  have e := congrFun (h c).2 y
  unfold Cert.Pre_table_finite_bytes_in_range.fn at e
  pointwise at e
  exact byte_of _ e

end Cert.CombineIdeal.Value

end
-- ==== Proof.lean ====
module

public import proofs.«01_k».proof.Defs
public import proofs.«01_k».proof.Proof.Gen.Hash.Frame
public import proofs.«01_k».proof.Proof.Gen.HashIdeal.Frame
public import proofs.«01_k».proof.Proof.Gen.HashReferenceIdeal.Run
public import proofs.«01_k».proof.Proof.Gen.Combine.Frame
public import proofs.«01_k».proof.Proof.Gen.CombineIdeal.Frame
public import proofs.«01_k».proof.Proof.Gen.CombineReferenceIdeal.Run
public import proofs.«01_k».proof.Proof.HashFinal
public import proofs.«01_k».proof.Proof.CombinePre
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem

theorem quiescent_HashReferenceIdeal : quiescent_HashReferenceIdeal := fun m ρ _ =>
  (θ_run Cert.HashReferenceIdeal.defs _ _).mono (fun r h => ⟨fun c => (h c).2, sem_eq_zero_of_no_sems (by decide) r.2⟩)
    (Cert.HashReferenceIdeal.Value.run (F := Ideal) m ρ)

theorem quiescent_CombineReferenceIdeal : quiescent_CombineReferenceIdeal := fun m ρ _ =>
  (θ_run Cert.CombineReferenceIdeal.defs _ _).mono (fun r h => ⟨fun c => (h c).2.2, sem_eq_zero_of_no_sems (by decide) r.2⟩)
    (Cert.CombineReferenceIdeal.Value.run (F := Ideal) m ρ)

theorem quiescent_CombineReferenceIdeal_pre :
    quiescent_CombineReferenceIdeal_pre_table_finite_bytes_in_range
      (hPre_table_finite_bytes_in_range := Cert.CombineIdeal.Value.pre_facts) := fun m ρ _ =>
  (θ_run Cert.CombineReferenceIdeal.defs _ _).mono (fun r h => ⟨fun c => (h c).2.2, sem_eq_zero_of_no_sems (by decide) r.2⟩)
    (Cert.CombineReferenceIdeal.Value.run (F := Ideal) m ρ)

/-- The kernel's indices are the reference's, word for word. -/
theorem algebraic_Hash : algebraic_HashIdeal_HashReferenceIdeal := by
  intro m ρ m' ρ' _ hagree
  refine ⟨_, Cert.HashIdeal.Value.run_blocks (F := Ideal) m ρ, ?_⟩
  refine (θ_run Cert.HashReferenceIdeal.defs _ _).mono (fun _ h c => ⟨?_, (h c).2⟩)
    (Cert.HashReferenceIdeal.Value.run (F := Ideal) m' ρ')
  obtain ⟨h0, h1, h2⟩ := hagree c
  rw [(h c).1, Cert.HashIdeal.Value.final_transposed m c (V0 := StableHlo.launchContents m' c)
    (Cert.HashIdeal.Value.ext_eq m c h0 h1) (Cert.HashIdeal.Value.seg_eq m c h2)]
  unfold Cert.HashIdeal.Value.REF Cert.HashIdeal.Value.refMod
  rfl

/-- The kernel's embeddings are the reference's, for a finite table and bytes in `[0, 256)`. -/
theorem algebraic_Combine :
    algebraic_CombineIdeal_CombineReferenceIdeal_pre_table_finite_bytes_in_range
      (hPre_table_finite_bytes_in_range := Cert.CombineIdeal.Value.pre_facts) := by
  intro m ρ m' ρ' hpre hagree
  have hk := fun c => (congrArg (transpose Cert.CombineIdeal.S10x3072x576 [0, 2, 1] · Cert.CombineIdeal.Gen.transposes_S10x576x3072_S10x3072x576_0_2_1)
    (Cert.CombineIdeal.Value.final m (Cert.CombineIdeal.Value.pre_finite m hpre) (Cert.CombineIdeal.Value.pre_bytes m hpre) c)).trans
    (Cert.CombineIdeal.Value.transpose_res _ _ _ _)
  refine ⟨fun c => Cert.CombineIdeal.Value.EMB m c, fun c => Cert.CombineIdeal.Value.HEAD m c,
    (θ_run Cert.CombineIdeal.defs _ _).mono (fun _ h c => ⟨(h c).1.trans (hk c),
      (h c).2.1.trans (congrArg Cert.CombineIdeal.Value.first7 (hk c)), (h c).2.2⟩)
      (Cert.CombineIdeal.Value.run_blocks (F := Ideal) m ρ), ?_⟩
  refine (θ_run Cert.CombineReferenceIdeal.defs _ _).mono (fun _ h c => ?_)
    (Cert.CombineReferenceIdeal.Value.run (F := Ideal) m' ρ')
  obtain ⟨h0, h1, h2, h3⟩ := hagree c
  obtain ⟨r0, r1, hr⟩ := h c
  rw [h0, h1, h2, h3] at r0 r1
  refine ⟨r0.trans (Cert.CombineIdeal.Value.res_eq _ _ _ _), r1.trans ?_, hr⟩
  exact congrArg Cert.CombineIdeal.Value.first7 (Cert.CombineIdeal.Value.res_eq _ _ _ _)

theorem claim : Cert.Claim :=
  ⟨Cert.Hash.Gen.facts, Cert.HashIdeal.Gen.facts, Cert.HashReferenceIdeal.Gen.facts, Cert.Combine.Gen.facts,
    Cert.CombineIdeal.Gen.facts, Cert.CombineReferenceIdeal.Gen.facts, Cert.CombineIdeal.Value.pre_facts,
    fun m ρ _ => Cert.Hash.Gen.frame m ρ, fun m ρ _ => Cert.HashIdeal.Gen.frame m ρ, quiescent_HashReferenceIdeal,
    fun m ρ _ => Cert.Combine.Gen.frame m ρ, fun m ρ _ => Cert.CombineIdeal.Gen.frame m ρ,
    fun m ρ _ => Cert.CombineIdeal.Gen.frame m ρ, quiescent_CombineReferenceIdeal, quiescent_CombineReferenceIdeal_pre,
    (trivial : preserves_Hash_HashIdeal), algebraic_Hash, (trivial : preserves_Combine_CombineIdeal), algebraic_Combine⟩

end Cert.Proof

end
